-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_biases_above_minus_inf [hPre_biases_above_minus_inf : Cert.Pre_biases_above_minus_inf.Facts] (m : (ℓ : Loc Cert.KernelIdeal.nD Cert.KernelIdeal.τ Cert.KernelIdeal.sig) → Buf (Elt Ideal) ℓ) : Prop :=
  ∀ c : Dev Cert.KernelIdeal.nD,
    (Cert.Pre_biases_above_minus_inf.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_biases_above_minus_inf [hPre_biases_above_minus_inf : Cert.Pre_biases_above_minus_inf.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_biases_above_minus_inf.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_biases_above_minus_inf [hKernelIdeal : Cert.KernelIdeal.Facts] [hPre_biases_above_minus_inf : Cert.Pre_biases_above_minus_inf.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_biases_above_minus_inf m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_biases_above_minus_inf [hReferenceIdeal : Cert.ReferenceIdeal.Facts] [hPre_biases_above_minus_inf : Cert.Pre_biases_above_minus_inf.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_biases_above_minus_inf m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_biases_above_minus_inf [hKernelIdeal : Cert.KernelIdeal.Facts] [hReferenceIdeal : Cert.ReferenceIdeal.Facts] [hPre_biases_above_minus_inf : Cert.Pre_biases_above_minus_inf.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_biases_above_minus_inf m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_biases_above_minus_inf : Cert.Pre_biases_above_minus_inf.Facts),
    quiescent_Kernel (hKernel := hKernel)
    ∧ quiescent_KernelIdeal (hKernelIdeal := hKernelIdeal)
    ∧ quiescent_KernelIdeal_pre_biases_above_minus_inf (hKernelIdeal := hKernelIdeal) (hPre_biases_above_minus_inf := hPre_biases_above_minus_inf)
    ∧ quiescent_ReferenceIdeal (hReferenceIdeal := hReferenceIdeal)
    ∧ quiescent_ReferenceIdeal_pre_biases_above_minus_inf (hReferenceIdeal := hReferenceIdeal) (hPre_biases_above_minus_inf := hPre_biases_above_minus_inf)
    ∧ preserves_Kernel_KernelIdeal
    ∧ algebraic_KernelIdeal_ReferenceIdeal_pre_biases_above_minus_inf (hKernelIdeal := hKernelIdeal) (hReferenceIdeal := hReferenceIdeal) (hPre_biases_above_minus_inf := hPre_biases_above_minus_inf)
-- ==== Pre_biases_above_minus_inf.lean ====
abbrev S8x2048x2816 : Shape := ⟨3, ![8, 2048, 2816]⟩
abbrev S8x2048 : Shape := ⟨2, ![8, 2048]⟩
abbrev S2816x64 : Shape := ⟨2, ![2816, 64]⟩
abbrev S64 : Shape := ⟨1, ![64]⟩
abbrev S_ : Shape := ⟨0, ![]⟩

class Facts : Prop where
  bcast_S_S64 : S_.BroadcastsInDim S64 (![] : Fin 0 → Fin S64.rank)

variable [Facts]

def fn {F : FTy → Type} [FloatOps F] (main_arg0 : FVec F S8x2048x2816 .fp8e4m3) (main_arg1 : FVec F S8x2048 .f32) (main_arg2 : FVec F S2816x64 .fp8e4m3) (main_arg3 : FVec F S64 .f32) (main_arg4 : FVec F S64 .f32) : IVec S64 1 :=
  let main_cst : FVec F S_ .f32 := constant S_ .f32 0xFF800000#32
  let main_v0 : FVec F S64 .f32 := broadcastInDim S64 ![] bcast_S_S64 main_cst
  let main_v1 : IVec S64 1 := cmpf .ogt main_arg4 main_v0
  main_v1
-- ==== Kernel.lean ====
abbrev S8x2048x2816 : Shape := ⟨3, ![8, 2048, 2816]⟩
abbrev S8x2048 : Shape := ⟨2, ![8, 2048]⟩
abbrev S2816x64 : Shape := ⟨2, ![2816, 64]⟩
abbrev S64 : Shape := ⟨1, ![64]⟩
abbrev S64x2816 : Shape := ⟨2, ![64, 2816]⟩
abbrev S8x8x2048 : Shape := ⟨3, ![8, 8, 2048]⟩
abbrev S8x128x2816 : Shape := ⟨3, ![8, 128, 2816]⟩
abbrev S8x128 : Shape := ⟨2, ![8, 128]⟩
abbrev S8x8x128 : Shape := ⟨3, ![8, 8, 128]⟩
abbrev S576x128 : Shape := ⟨2, ![576, 128]⟩
abbrev S64x8x128 : Shape := ⟨3, ![64, 8, 128]⟩
abbrev S1024x2816 : Shape := ⟨2, ![1024, 2816]⟩
abbrev S64x1024 : Shape := ⟨2, ![64, 1024]⟩
abbrev S64x128 : Shape := ⟨2, ![64, 128]⟩
abbrev S1 : Shape := ⟨1, ![1]⟩
abbrev S1x8x128 : Shape := ⟨3, ![1, 8, 128]⟩
abbrev S8x1x128 : Shape := ⟨3, ![8, 1, 128]⟩
abbrev S8x2048x8 : Shape := ⟨3, ![8, 2048, 8]⟩

abbrev nBuf : Space → Nat
  | .hbm => 10
  | .vmem => 12
  | .smem => 2
  | _ => 0

abbrev bufTy : (tb : Table) → Fin (tcTables nBuf tb) → BufTy
  | .hbm, ⟨0, _⟩ => ⟨S8x2048x2816, .fp8e4m3⟩
  | .hbm, ⟨1, _⟩ => ⟨S8x2048, .f32⟩
  | .hbm, ⟨2, _⟩ => ⟨S2816x64, .fp8e4m3⟩
  | .hbm, ⟨3, _⟩ => ⟨S64, .f32⟩
  | .hbm, ⟨4, _⟩ => ⟨S64, .f32⟩
  | .hbm, ⟨5, _⟩ => ⟨S64x2816, .fp8e4m3⟩
  | .hbm, ⟨6, _⟩ => ⟨S8x8x2048, .i32⟩
  | .hbm, ⟨7, _⟩ => ⟨S8x8x2048, .f32⟩
  | .hbm, ⟨8, _⟩ => ⟨S8x2048x8, .i32⟩
  | .hbm, ⟨9, _⟩ => ⟨S8x2048x8, .f32⟩
  | .local _ .vmem, ⟨0, _⟩ => ⟨S8x128x2816, .fp8e4m3⟩
  | .local _ .vmem, ⟨1, _⟩ => ⟨S8x128x2816, .fp8e4m3⟩
  | .local _ .vmem, ⟨2, _⟩ => ⟨S8x128, .f32⟩
  | .local _ .vmem, ⟨3, _⟩ => ⟨S8x128, .f32⟩
  | .local _ .vmem, ⟨4, _⟩ => ⟨S64x2816, .fp8e4m3⟩
  | .local _ .vmem, ⟨5, _⟩ => ⟨S8x8x128, .i32⟩
  | .local _ .vmem, ⟨6, _⟩ => ⟨S8x8x128, .i32⟩
  | .local _ .vmem, ⟨7, _⟩ => ⟨S8x8x128, .f32⟩
  | .local _ .vmem, ⟨8, _⟩ => ⟨S8x8x128, .f32⟩
  | .local _ .vmem, ⟨9, _⟩ => ⟨S576x128, .f32⟩
  | .local _ .vmem, ⟨10, _⟩ => ⟨S64x8x128, .f32⟩
  | .local _ .vmem, ⟨11, _⟩ => ⟨S64x8x128, .f32⟩
  | .local _ .smem, ⟨0, _⟩ => ⟨S64, .f32⟩
  | .local _ .smem, ⟨1, _⟩ => ⟨S64, .f32⟩
  | _, _ => ⟨S8x2048x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v2 : Ref sig .tc := ⟨.hbm, 8, rfl⟩
abbrev main_v3 : Ref sig .tc := ⟨.hbm, 9, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .smem S64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x128x2816 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S64x2816 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x8x128 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x2048x2816 : Shape := ⟨3, ![8, 2048, 2816]⟩
abbrev S8x2048 : Shape := ⟨2, ![8, 2048]⟩
abbrev S2816x64 : Shape := ⟨2, ![2816, 64]⟩
abbrev S64 : Shape := ⟨1, ![64]⟩
abbrev S8x2048x8 : Shape := ⟨3, ![8, 2048, 8]⟩
abbrev S8x2048x64 : Shape := ⟨3, ![8, 2048, 64]⟩
abbrev S8x2048x1 : Shape := ⟨3, ![8, 2048, 1]⟩
abbrev S1x1x64 : Shape := ⟨3, ![1, 1, 64]⟩
abbrev S8x2048x8x8 : Shape := ⟨4, ![8, 2048, 8, 8]⟩
abbrev S8x2048x8x1 : Shape := ⟨4, ![8, 2048, 8, 1]⟩
abbrev S8x2048x1x8 : Shape := ⟨4, ![8, 2048, 1, 8]⟩
abbrev S8x8 : Shape := ⟨2, ![8, 8]⟩
abbrev S1x1x8x8 : Shape := ⟨4, ![1, 1, 8, 8]⟩
abbrev S1x64 : Shape := ⟨2, ![1, 64]⟩

abbrev nBuf : Space → Nat
  | .hbm => 7
  | .vmem => 7
  | .smem => 0
  | _ => 0

abbrev bufTy : (tb : Table) → Fin (tcTables nBuf tb) → BufTy
  | .hbm, ⟨0, _⟩ => ⟨S8x2048x2816, .fp8e4m3⟩
  | .hbm, ⟨1, _⟩ => ⟨S8x2048, .f32⟩
  | .hbm, ⟨2, _⟩ => ⟨S2816x64, .fp8e4m3⟩
  | .hbm, ⟨3, _⟩ => ⟨S64, .f32⟩
  | .hbm, ⟨4, _⟩ => ⟨S64, .f32⟩
  | .hbm, ⟨5, _⟩ => ⟨S8x2048x8, .i32⟩
  | .hbm, ⟨6, _⟩ => ⟨S8x2048x8, .f32⟩
  | .local _ .vmem, ⟨0, _⟩ => ⟨S8x2048x2816, .fp8e4m3⟩
  | .local _ .vmem, ⟨1, _⟩ => ⟨S8x2048, .f32⟩
  | .local _ .vmem, ⟨2, _⟩ => ⟨S2816x64, .fp8e4m3⟩
  | .local _ .vmem, ⟨3, _⟩ => ⟨S64, .f32⟩
  | .local _ .vmem, ⟨4, _⟩ => ⟨S64, .f32⟩
  | .local _ .vmem, ⟨5, _⟩ => ⟨S8x2048x8, .i32⟩
  | .local _ .vmem, ⟨6, _⟩ => ⟨S8x2048x8, .f32⟩
  | _, _ => ⟨S8x2048x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x2048x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2816x64 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x8 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x2048x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Router.Inputs.lean ====
/- The blocks of the kernel's inputs at a grid point, in terms of its arguments. -/
module

public import proofs.«01_k».proof.Proof.Gen.KernelIdeal.Frame
public import Idealize.ShloMosaic.Lib.Pointwise
public import Idealize.ShloMosaic.Lib.Pipeline.ValueKit
public import Idealize.ShloMosaic.Lib.Claim

@[expose] public section

noncomputable section

namespace Cert.Router.Arr

open Idealize.ShloMosaic Idealize.ShloMosaic.TcCoe Idealize.ShloMosaic.Pipeline Cert.KernelIdeal Cert.KernelIdeal.Gen Cert.KernelIdeal.Facts

variable {F : FTy → Type} [FloatOps F] (m : (ℓ : Loc nD τ sig) → Buf (Elt F) ℓ) (c : Dev nD) (t : Fin cfg0.N)

/-- There are sixteen grid points. -/
theorem lt16 : t.val < 16 := t.isLt

/-- Token `l` of block `t`. -/
def tok (l : Fin 128) : Fin 2048 := ⟨128 * t.val + l.val, by have := lt16 t; omega⟩

/-- Where each window's block sits. -/
theorem idx : ∀ t : Fin grid0.N, win0_0.index t = ![0] ∧ win0_1.index t = ![0] ∧ win0_2.index t = ![0, t.val, 0]
    ∧ win0_3.index t = ![0, t.val] ∧ win0_4.index t = ![0, 0] ∧ win0_5.index t = ![0, 0, t.val] ∧ win0_6.index t = ![0, 0, t.val] := by
  decide +kernel

/-- The block of weight scales is the whole argument. -/
theorem blk0 (e : Fin 64) : iblk m c 0 t (ix1 e) = m ((c.tc : Thread nD τ).loc main_arg3) (ix1 e) := by
  blk_ext [iblk, V, idx t]

/-- The block of biases is the whole argument. -/
theorem blk1 (e : Fin 64) : iblk m c 1 t (ix1 e) = m ((c.tc : Thread nD τ).loc main_arg4) (ix1 e) := by
  blk_ext [iblk, V, idx t]

/-- The block of activation codes is that of its tokens. -/
theorem blk2 (b : Fin 8) (l : Fin 128) (d : Fin 2816) :
    iblk m c 2 t (ix3 b l d) = m ((c.tc : Thread nD τ).loc main_arg0) (ix3 b (tok t l) d) := by
  blk_ext [iblk, V, idx t, tok]

/-- The block of activation scales is that of its tokens. -/
theorem blk3 (b : Fin 8) (l : Fin 128) :
    iblk m c 3 t (ix2 b l) = m ((c.tc : Thread nD τ).loc main_arg1) (ix2 b (tok t l)) := by
  blk_ext [iblk, V, idx t, tok]

/-- The host's transpose of the weight codes, before the call. -/
theorem V_main_v0 : V m c main_v0 = transpose S64x2816 [1, 0] (m ((c.tc : Thread nD τ).loc main_arg2)) transposes_S2816x64_S64x2816_1_0 := by
  show StableHlo.after [_] _ (Proc.tc.devRef main_v0) = _
  rw [StableHlo.after_cons, StableHlo.after_nil]
  exact StableHlo.unary_result _ _ _ _ _ _

/-- The block of weight codes is the whole transposed argument. -/
theorem blk4 (e : Fin 64) (d : Fin 2816) :
    iblk m c 4 t (ix2 e d) = m ((c.tc : Thread nD τ).loc main_arg2) (ix2 d e) := by
  have h : iblk m c 4 t (ix2 e d) = V m c main_v0 (ix2 e d) := by
    blk_ext [iblk, idx t]
  rw [h, V_main_v0]
  pointwise []

end Cert.Router.Arr

end
-- ==== Proof.Router.Net.lean ====
/- Networks of compare-exchange steps on eight values, and balanced trees of an operation, over any type of
   values: the shapes that the kernel computes with, stated once for its vectors and for the proof's keys. -/
module

@[expose] public section

namespace Cert.Router

variable {α β : Type}

/-- The balanced tree of `op` over the `2 ^ n` values `f 0, …, f (2 ^ n - 1)`. -/
def tree (op : α → α → α) : (n : Nat) → (Nat → α) → α
  | 0, f => f 0
  | n + 1, f => op (tree op n f) (tree op n fun i => f (2 ^ n + i))

/-- One compare-exchange: position `i` takes `lo` of the values at `i` and `j`, position `j` takes `hi` of them. -/
def exchange (lo hi : α → α → α) (i j : Fin 8) (xs : Fin 8 → α) : Fin 8 → α := fun k =>
  if k = i then lo (xs i) (xs j) else if k = j then hi (xs i) (xs j) else xs k

/-- A list of compare-exchange steps run in order. A step's flag selects one of two pairs of operations. -/
def runNet (lo hi : Bool → α → α → α) : List (Fin 8 × Fin 8 × Bool) → (Fin 8 → α) → Fin 8 → α
  | [], xs => xs
  | (i, j, b) :: r, xs => runNet lo hi r (exchange (lo b) (hi b) i j xs)

/-- The sorting network of eight values. -/
def sortNet : List (Fin 8 × Fin 8 × Bool) :=
  [(0, 1, false), (2, 3, false), (4, 5, false), (6, 7, false), (0, 2, false), (1, 3, false), (4, 6, false), (5, 7, false),
   (1, 2, true), (5, 6, true), (0, 4, false), (1, 5, false), (2, 6, false), (3, 7, false),
   (2, 4, true), (3, 5, true), (1, 2, true), (3, 4, true), (5, 6, true)]

/-- The steps that sort a bitonic sequence of eight values. -/
def mergeNet : List (Fin 8 × Fin 8 × Bool) :=
  [(0, 4, true), (1, 5, true), (2, 6, true), (3, 7, true), (0, 2, true), (1, 3, true), (4, 6, true), (5, 7, true),
   (0, 1, true), (2, 3, true), (4, 5, true), (6, 7, true)]

/-- Of two sorted lists of eight, the eight first values, bitonic: position `i` of one against position `7 - i` of the other. -/
def half (lo : Bool → α → α → α) (a b : Fin 8 → α) : Fin 8 → α := fun i => lo false (a i) (b i.rev)

/-- The eight values sorted. -/
def sort8 (lo hi : Bool → α → α → α) (xs : Fin 8 → α) : Fin 8 → α := runNet lo hi sortNet xs

/-- The first eight of two sorted lists of eight, sorted. -/
def merge8 (lo hi : Bool → α → α → α) (a b : Fin 8 → α) : Fin 8 → α := runNet lo hi mergeNet (half lo a b)

/-- The first eight of four lists of eight. -/
def top8 (lo hi : Bool → α → α → α) (xs : Fin 4 → Fin 8 → α) : Fin 8 → α :=
  merge8 lo hi (merge8 lo hi (sort8 lo hi (xs 0)) (sort8 lo hi (xs 1))) (merge8 lo hi (sort8 lo hi (xs 2)) (sort8 lo hi (xs 3)))

end Cert.Router

end
-- ==== Proof.Router.Vec.lean ====
/- The router kernel's computation on its vectors, written with the networks of `Net.lean`: what the kernel
   makes of the logits it loads and of the scores it loads back, free of memory. -/
module

public import proofs.«01_k».proof.KernelIdeal
public import proofs.«01_k».proof.Proof.Gen.KernelIdeal
public import proofs.«01_k».proof.Proof.Router.Net

@[expose] public section

noncomputable section

namespace Cert.Router.Vec

open Idealize.ShloMosaic Cert.KernelIdeal Cert.KernelIdeal.Facts

variable {F : FTy → Type} [FloatOps F]

/-- The logits of expert `e`: its dot products scaled by the rows' scales and by the expert's. -/
def logit (ld : Fin 64 → FVec F S8x128 .f32) (xs : FVec F S8x128 .f32) (ws : Fin 64 → F .f32) (e : Nat) : FVec F S8x128 .f32 :=
  mulf (mulf (ld (Fin.ofNat 64 e)) xs) (broadcast S8x128 (ws (Fin.ofNat 64 e)))

/-- The exponentials of the logits less their maximum. -/
def ex (lg : Nat → FVec F S8x128 .f32) (e : Nat) : FVec F S8x128 .f32 := exp (subf (lg e) (tree maximumf 6 lg))

/-- The scores: each exponential times the reciprocal of their sum. -/
def sc (lg : Nat → FVec F S8x128 .f32) (e : Nat) : FVec F S8x128 .f32 :=
  mulf (ex lg e) (divf (broadcast S8x128 (Scalar.ofBits .f32 0x3F800000#32)) (tree addf 6 (ex lg)))

/-- The choice: score plus bias. -/
def ch (lg : Nat → FVec F S8x128 .f32) (bi : Fin 64 → F .f32) (e : Nat) : FVec F S8x128 .f32 :=
  addf (sc lg e) (broadcast S8x128 (bi (Fin.ofNat 64 e)))

/-- A group's score, the maximum of its choices. -/
def gs (c : Nat → FVec F S8x128 .f32) (g : Nat) : FVec F S8x128 .f32 := tree maximumf 3 fun j => c (8 * g + j)

/-- Whether group `j` is at least group `g`, as a word. -/
def beats (G : Nat → FVec F S8x128 .f32) (j g : Nat) : IVec S8x128 32 := extui 32 (cmpf .oge (G j) (G g)) (by decide)

/-- A group's rank: the count of the groups ahead of it. -/
def rank (G : Nat → FVec F S8x128 .f32) (g : Nat) : IVec S8x128 32 :=
  (List.range' (g + 1) (7 - g)).foldl (fun r k => subi r (beats G g k))
    ((List.range' 0 g).foldl (fun r j => addi r (beats G j g)) (broadcast S8x128 (BitVec.ofNat 32 (7 - g))))

/-- Whether a group is kept, as a word. -/
def kept (r : Nat → IVec S8x128 32) (g : Nat) : IVec S8x128 32 := extui 32 (cmpi .slt (r g) (broadcast S8x128 4#32)) (by decide)

/-- The count of the kept groups up to `g`. -/
def count (r : Nat → IVec S8x128 32) : Nat → IVec S8x128 32
  | 0 => kept r 0
  | g + 1 => addi (count r g) (kept r (g + 1))

/-- Whether the kept groups up to `s + i` are more than `s`. -/
def mask (n : Nat → IVec S8x128 32) (s i : Nat) : IVec S8x128 1 := cmpi .sgt (n (s + i)) (broadcast S8x128 (BitVec.ofNat 32 s))

/-- The value of the kept group number `s`, of the values of the five groups it may be. -/
def pick (n : Nat → IVec S8x128 32) (s : Nat) {ε : Type} (v : Nat → S8x128.Idx → ε) : S8x128.Idx → ε :=
  select (mask n s 0) (v s) (select (mask n s 1) (v (s + 1)) (select (mask n s 2) (v (s + 2)) (select (mask n s 3) (v (s + 3)) (v (s + 4)))))

/-- What the networks move: choice, expert and score. -/
abbrev T (F : FTy → Type) : Type := FVec F S8x128 .f32 × IVec S8x128 32 × FVec F S8x128 .f32

/-- The two orders the kernel compares by: the choice alone, or the choice and then the expert. -/
def ord : Bool → T F → T F → IVec S8x128 1
  | false, a, b => cmpf .oge a.1 b.1
  | true, a, b => ori (cmpf .ogt a.1 b.1) (andi (cmpf .oeq a.1 b.1) (cmpi .slt a.2.1 b.2.1))

/-- One triple or the other, lane by lane. -/
def sel (m : IVec S8x128 1) (a b : T F) : T F := (select m a.1 b.1, select m a.2.1 b.2.1, select m a.2.2 b.2.2)

/-- The one that comes first. -/
def lo (b : Bool) (x y : T F) : T F := sel (ord b x y) x y

/-- The one that comes last. -/
def hi (b : Bool) (x y : T F) : T F := sel (ord b x y) y x

/-- Candidate `j` of the kept group number `s`. -/
def cand (n : Nat → IVec S8x128 32) (cl sl : Fin 64 → FVec F S8x128 .f32) (s : Fin 4) (j : Fin 8) : T F :=
  (pick n s.val fun g => cl (Fin.ofNat 64 (8 * g + j.val)),
   addi (pick n s.val fun g => broadcast S8x128 (BitVec.ofNat 32 (8 * g))) (broadcast S8x128 (BitVec.ofNat 32 j.val)),
   pick n s.val fun g => sl (Fin.ofNat 64 (8 * g + j.val)))

/-- The eight routed experts. `cl` and `sl` are the choices and scores as loaded back. -/
def routed (ld : Fin 64 → FVec F S8x128 .f32) (xs : FVec F S8x128 .f32) (ws bi : Fin 64 → F .f32)
    (cl sl : Fin 64 → FVec F S8x128 .f32) : Fin 8 → T F :=
  top8 lo hi (cand (count (rank (gs (ch (logit ld xs ws) bi)))) cl sl)

end Cert.Router.Vec

end
-- ==== Proof.Router.Body.lean ====
/- What one run of the router's body stores, as the computation of `Vec.lean` of what it loads: the pieces of the
   two results and of the two scratch buffers. -/
module

public import proofs.«01_k».proof.Proof.Gen.KernelIdeal.Frame
public import proofs.«01_k».proof.Proof.Router.Vec

@[expose] public section

noncomputable section

namespace Cert.Router.Body

open Idealize.ShloMosaic Idealize.ShloMosaic.TcCoe Idealize.ShloMosaic.Tactic Cert.KernelIdeal Cert.KernelIdeal.Gen Cert.KernelIdeal.Facts

variable {F : FTy → Type} [FloatOps F]

/-- The rectangle of expert `e`'s eight rows of the accumulator. -/
abbrev rectA (e : Fin 64) : Rect S576x128 :=
  Rect.unit ![e.val * 9, 0] S8x128.size (by intro a; fin_cases a <;> simp <;> omega)

/-- The rectangle of expert `e` in a scratch buffer of one block per expert. -/
abbrev rectS (e : Fin 64) : Rect S64x8x128 :=
  Rect.unit ![e.val, 0, 0] S1x8x128.size (by intro a; fin_cases a <;> simp <;> omega)

/-- The rectangle of result row `k`. -/
abbrev rectO (k : Fin 8) : Rect S8x8x128 :=
  Rect.unit ![0, k.val, 0] S8x1x128.size (by intro a; fin_cases a <;> simp <;> omega)

/-- The list `f (n - 1), …, f 0`. -/
def down {α : Type} (f : Nat → α) : Nat → List α
  | 0 => []
  | n + 1 => f n :: down f n

/-- The rectangle of the accumulator's rows `b, b + 9, …`: batch row `b` of every expert. -/
abbrev rectB (b : Fin 8) : Rect S576x128 where
  off := ![b.val, 0]
  size := S64x128.size
  stride := ![9, 1]
  inb := by intro a; fin_cases a <;> simp <;> omega
  stride_pos := by intro a; fin_cases a <;> simp

/-- What the accumulator is written with: batch row `b`'s columns of the dot products. -/
def accL (d : FVec F S64x1024 .f32) : List (View.Piece (Elt F) S576x128 .f32) :=
  down (fun b => ⟨rectB (Fin.ofNat 8 b), shapeCast S64x128
    (extractStridedSlice S64x128 ![0, 128 * (Fin.ofNat 8 b).val] d (by
      refine ⟨rfl, fun a => ?_⟩; fin_cases a <;> simp <;> omega)) shapeCasts_S64x128_S64x128⟩) 8

/-- What a buffer of one block per expert is written with. -/
def blocksL (f : Nat → FVec F S8x128 .f32) : List (View.Piece (Elt F) S64x8x128 .f32) :=
  down (fun e => ⟨rectS (Fin.ofNat 64 e), shapeCast S1x8x128 (f e) shapeCasts_S8x128_S1x8x128⟩) 64

/-- What a result of one row per routed expert is written with. -/
def rowsL {ε : EltTy} (f : Fin 8 → Vec F S8x128 ε) : List (View.Piece (Elt F) S8x8x128 ε) :=
  down (fun k => ⟨rectO (Fin.ofNat 8 k), shapeCast S8x1x128 (f (Fin.ofNat 8 k)) shapeCasts_S8x128_S8x1x128⟩) 8

/-- Word `e` of a table of one word per expert. -/
def word (arg : Memref sig .tc .smem S64 .f32) (h : arg.IsWhole) (x : Vec F S64 .f32) (e : Fin 64) : F .f32 :=
  View.readAt (Elt F) arg.view (Rect.unit (s := S64) ![e.val] S1.size (by intro a; fin_cases a; simp; omega)).toLoadRect (h.unread x)
    (Shape.Idx.first (show 0 < S1.numel by decide))

/-- The block of expert `e` as loaded back. -/
def block (arg : Memref sig .tc .vmem S64x8x128 .f32) (L : List (View.Piece (Elt F) S64x8x128 .f32)) (e : Fin 64) :
    FVec F S8x128 .f32 := shapeCast S8x128 (arg.view.readCov L (rectS e).toLoadRect) shapeCasts_S1x8x128_S8x128

section
variable (c : Dev nD) (i : grid0.Coords) (arg1 : Memref sig .tc .smem S64 .f32) (harg1 : arg1.IsWhole) (arg2 : Memref sig .tc .smem S64 .f32) (harg2 : arg2.IsWhole) (arg3 : Memref sig .tc .vmem S8x128x2816 .fp8e4m3) (harg3 : arg3.IsWhole) (arg4 : Memref sig .tc .vmem S8x128 .f32) (harg4 : arg4.IsWhole) (arg5 : Memref sig .tc .vmem S64x2816 .fp8e4m3) (harg5 : arg5.IsWhole) (arg6 : Memref sig .tc .vmem S8x8x128 .i32) (harg6 : arg6.IsWhole) (arg7 : Memref sig .tc .vmem S8x8x128 .f32) (harg7 : arg7.IsWhole) (arg8 : Memref sig .tc .vmem S576x128 .f32) (harg8 : arg8.IsWhole) (arg9 : Memref sig .tc .vmem S64x8x128 .f32) (harg9 : arg9.IsWhole) (arg10 : Memref sig .tc .vmem S64x8x128 .f32) (harg10 : arg10.IsWhole)
  (x0 : Vec F S64 .f32) (x1 : Vec F S64 .f32) (x2 : Vec F S8x128x2816 .fp8e4m3) (x3 : Vec F S8x128 .f32) (x4 : Vec F S64x2816 .fp8e4m3)

/-- The logits, as the body loads them. -/
def lg : Nat → FVec F S8x128 .f32 :=
  Vec.logit
    (fun e => arg8.view.readCov (accL (k0_pay4
      (View.readAt (Elt F) arg3.view (Rect.unit (s := S8x128x2816) ![0, 0, 0] S8x128x2816.size inb_S8x128x2816_S8x128x2816_0_0_0).toLoadRect (harg3.unread x2))
      (View.readAt (Elt F) arg5.view (Rect.unit (s := S64x2816) ![0, 0] S64x2816.size inb_S64x2816_S64x2816_0_0).toLoadRect (harg5.unread x4))))
      (rectA e).toLoadRect)
    (View.readAt (Elt F) arg4.view (Rect.unit (s := S8x128) ![0, 0] S8x128.size inb_S8x128_S8x128_0_0).toLoadRect (harg4.unread x3))
    (word arg1 harg1 x0)

/-- The scores, as the body computes them. -/
def scs : Nat → FVec F S8x128 .f32 := Vec.sc (lg arg1 harg1 arg3 harg3 arg4 harg4 arg5 harg5 arg8 x0 x2 x3 x4)

/-- The choices, as the body computes them. -/
def chs : Nat → FVec F S8x128 .f32 :=
  Vec.ch (lg arg1 harg1 arg3 harg3 arg4 harg4 arg5 harg5 arg8 x0 x2 x3 x4) (word arg2 harg2 x1)

/-- The score buffer holds the scores. -/
theorem run_score : (kernelRun0_A c i arg1 harg1 arg2 harg2 arg3 harg3 arg4 harg4 arg5 harg5 arg6 harg6 arg7 harg7 arg8 harg8 arg9 harg9 arg10 harg10 x0 x1 x2 x3 x4).2.2.1
    = blocksL (scs arg1 harg1 arg3 harg3 arg4 harg4 arg5 harg5 arg8 x0 x2 x3 x4) := by sl_kernel_rfl

/-- The choice buffer holds the choices. -/
theorem run_choice : (kernelRun0_A c i arg1 harg1 arg2 harg2 arg3 harg3 arg4 harg4 arg5 harg5 arg6 harg6 arg7 harg7 arg8 harg8 arg9 harg9 arg10 harg10 x0 x1 x2 x3 x4).2.2.2.1
    = blocksL (chs arg1 harg1 arg2 harg2 arg3 harg3 arg4 harg4 arg5 harg5 arg8 x0 x1 x2 x3 x4) := by sl_kernel_rfl

/-- The routed experts, as the body computes them. -/
def rts : Fin 8 → Vec.T F :=
  Vec.routed
    (fun e => arg8.view.readCov (accL (k0_pay4
      (View.readAt (Elt F) arg3.view (Rect.unit (s := S8x128x2816) ![0, 0, 0] S8x128x2816.size inb_S8x128x2816_S8x128x2816_0_0_0).toLoadRect (harg3.unread x2))
      (View.readAt (Elt F) arg5.view (Rect.unit (s := S64x2816) ![0, 0] S64x2816.size inb_S64x2816_S64x2816_0_0).toLoadRect (harg5.unread x4))))
      (rectA e).toLoadRect)
    (View.readAt (Elt F) arg4.view (Rect.unit (s := S8x128) ![0, 0] S8x128.size inb_S8x128_S8x128_0_0).toLoadRect (harg4.unread x3))
    (word arg1 harg1 x0) (word arg2 harg2 x1)
    (block arg10 (kernelRun0_A c i arg1 harg1 arg2 harg2 arg3 harg3 arg4 harg4 arg5 harg5 arg6 harg6 arg7 harg7 arg8 harg8 arg9 harg9 arg10 harg10 x0 x1 x2 x3 x4).2.2.2.1) (block arg9 (kernelRun0_A c i arg1 harg1 arg2 harg2 arg3 harg3 arg4 harg4 arg5 harg5 arg6 harg6 arg7 harg7 arg8 harg8 arg9 harg9 arg10 harg10 x0 x1 x2 x3 x4).2.2.1)

/-- The first result's rows are the routed experts. -/
theorem run_ids : (kernelRun0_A c i arg1 harg1 arg2 harg2 arg3 harg3 arg4 harg4 arg5 harg5 arg6 harg6 arg7 harg7 arg8 harg8 arg9 harg9 arg10 harg10 x0 x1 x2 x3 x4).1
    = rowsL (ε := .i32) fun k => (rts c i arg1 harg1 arg2 harg2 arg3 harg3 arg4 harg4 arg5 harg5 arg6 harg6 arg7 harg7 arg8 harg8 arg9 harg9 arg10 harg10 x0 x1 x2 x3 x4 k).2.1 := by sl_kernel_rfl

/-- The second result's rows are the routed experts' scores, scaled. -/
theorem run_wts : (kernelRun0_A c i arg1 harg1 arg2 harg2 arg3 harg3 arg4 harg4 arg5 harg5 arg6 harg6 arg7 harg7 arg8 harg8 arg9 harg9 arg10 harg10 x0 x1 x2 x3 x4).2.1
    = rowsL (ε := .f32) fun k => mulf (rts c i arg1 harg1 arg2 harg2 arg3 harg3 arg4 harg4 arg5 harg5 arg6 harg6 arg7 harg7 arg8 harg8 arg9 harg9 arg10 harg10 x0 x1 x2 x3 x4 k).2.2 (broadcast S8x128 (Scalar.ofBits .f32 0x40200000#32)) := by sl_kernel_rfl

end

end Cert.Router.Body
end
-- ==== Proof.Router.Loads.lean ====
/- What the body's loads hold, of what was stored: the accumulator's rows, the score and choice blocks, the tables'
   words; and what the two results hold after the run. -/
module

public import proofs.«01_k».proof.Proof.Router.Body
public import Idealize.ShloMosaic.Lib.Pointwise
public import Idealize.ShloMosaic.Lib.Pipeline.Value
public import Idealize.ShloMosaic.Lib.WholeRead

@[expose] public section

noncomputable section

namespace Cert.Router.Body

open Idealize.ShloMosaic Idealize.ShloMosaic.TcCoe Idealize.ShloMosaic.Tactic Cert.KernelIdeal Cert.KernelIdeal.Gen Cert.KernelIdeal.Facts

variable {F : FTy → Type} [FloatOps F]

/-- What a downward list holds. -/
theorem mem_down {α : Type} (f : Nat → α) (n : Nat) (a : α) : a ∈ down f n ↔ ∃ i, i < n ∧ a = f i := by
  induction n with
  | zero => simp [down]
  | succ n ih =>
    simp only [down, List.mem_cons, ih]
    constructor
    · rintro (h | ⟨i, hi, h⟩)
      · exact ⟨n, Nat.lt_succ_self n, h⟩
      · exact ⟨i, hi.trans (Nat.lt_succ_self n), h⟩
    · rintro ⟨i, hi, h⟩
      rcases Nat.lt_succ_iff_lt_or_eq.mp hi with h' | rfl
      · exact .inr ⟨i, h', h⟩
      · exact .inl h

/-- Pieces that all hold their part of one function leave that function wherever one of them lies. -/
theorem canon_down {S : Shape} {ε : EltTy} (G : S.Idx → Elt F ε) (f : Nat → View.Piece (Elt F) S ε) (n : Nat)
    (h : ∀ i, i < n → ∀ x : (f i).1.shape.Idx, (f i).2 x = G ((f i).1.emb x)) (y : S.Idx) (i : Nat) (hi : i < n)
    (x : (f i).1.shape.Idx) (hy : (f i).1.emb x = y) : View.canon (down f n) y = G y :=
  View.canon_apply_of_pieces G _ (fun p hp x => by
    obtain ⟨i, hi, rfl⟩ := (mem_down f n p).mp hp
    exact h i hi x) y ⟨f i, (mem_down f n _).mpr ⟨i, hi, rfl⟩, hy ▸ (f i).1.idx_mem x⟩

section
variable {α : Type}

/-- Dropping a leading axis of one. -/
theorem cast_drop (v : S1x8x128.Idx → α) (h : S1x8x128.ShapeCasts S8x128) (b : Fin 8) (l : Fin 128) :
    shapeCast S8x128 v h (ix2 b l) = v (ix3 0 b l) := by pointwise []

/-- Adding a leading axis of one. -/
theorem cast_add (v : S8x128.Idx → α) (h : S8x128.ShapeCasts S1x8x128) (z : Fin 1) (b : Fin 8) (l : Fin 128) :
    shapeCast S1x8x128 v h (ix3 z b l) = v (ix2 b l) := by pointwise []

/-- Adding a middle axis of one. -/
theorem cast_row (v : S8x128.Idx → α) (h : S8x128.ShapeCasts S8x1x128) (a : Fin 8) (z : Fin 1) (l : Fin 128) :
    shapeCast S8x1x128 v h (ix3 a z l) = v (ix2 a l) := by pointwise []

/-- A cast to the same shape. -/
theorem cast_same (v : S64x128.Idx → α) (h : S64x128.ShapeCasts S64x128) (e : Fin 64) (l : Fin 128) :
    shapeCast S64x128 v h (ix2 e l) = v (ix2 e l) := by pointwise []

/-- A slice of 128 columns. -/
theorem cut_cols (v : S64x1024.Idx → α) (n : Nat) (hn : n < 8) (h) (e : Fin 64) (l : Fin 128) :
    extractStridedSlice S64x128 ![0, 128 * n] v h (ix2 e l) = v (ix2 e ⟨128 * n + l.val, by omega⟩) := by
  pointwise []
end

/-- Where an expert's block sits in its buffer. -/
theorem emb_S (e : Fin 64) (z : Fin 1) (b : Fin 8) (l : Fin 128) : (rectS e).emb (ix3 z b l) = ix3 e b l := by
  funext a; fin_cases a <;> refine Fin.ext ?_ <;> rw [Rect.emb_apply] <;> simp

/-- Where a result row sits in its block. -/
theorem emb_O (k : Fin 8) (a : Fin 8) (z : Fin 1) (l : Fin 128) : (rectO k).emb (ix3 a z l) = ix3 a k l := by
  funext a; fin_cases a <;> refine Fin.ext ?_ <;> rw [Rect.emb_apply] <;> simp

/-- Where an expert's rows sit in the accumulator. -/
theorem emb_A (e : Fin 64) (b : Fin 8) (l : Fin 128) : (rectA e).emb (ix2 b l) = ix2 ⟨9 * e.val + b.val, by omega⟩ l := by
  funext a; fin_cases a <;> refine Fin.ext ?_ <;> rw [Rect.emb_apply] <;> simp <;> omega

/-- Where a batch row's strided rows sit in the accumulator. -/
theorem emb_B (e : Fin 64) (b : Fin 8) (l : Fin 128) : (rectB b).emb (ix2 e l) = ix2 ⟨9 * e.val + b.val, by omega⟩ l := by
  funext a; fin_cases a <;> refine Fin.ext ?_ <;> rw [Rect.emb_apply] <;> simp <;> omega

/-- The score (or choice) block of an expert is loaded back as it was stored. -/
theorem block_blocksL (arg : Memref sig .tc .vmem S64x8x128 .f32) (f : Nat → FVec F S8x128 .f32) (e : Fin 64) :
    block arg (blocksL f) e = f e.val := by
  funext y
  obtain ⟨b, l, rfl⟩ : ∃ (b : Fin 8) (l : Fin 128), y = ix2 b l := ⟨y 0, y 1, by funext a; fin_cases a <;> rfl⟩
  unfold block
  rw [View.readCov_eq_canon', cast_drop]
  have he : Fin.ofNat 64 e.val = e := Fin.ext (Nat.mod_eq_of_lt e.isLt)
  refine (canon_down (fun y : S64x8x128.Idx => f (y 0).val (ix2 (y 1) (y 2))) _ 64 (fun i hi x => ?_) _ e.val e.isLt (ix3 0 b l) ?_).trans ?_
  · obtain ⟨z, b', l', rfl⟩ : ∃ (z : Fin 1) (b' : Fin 8) (l' : Fin 128), x = ix3 z b' l' :=
      ⟨x 0, x 1, x 2, by funext a; fin_cases a <;> rfl⟩
    dsimp only
    rw [cast_add, emb_S]
    have : (Fin.ofNat 64 i).val = i := Nat.mod_eq_of_lt hi
    show _ = f (Fin.ofNat 64 i).val _
    rw [this]; rfl
  · dsimp only; rw [he]; rfl
  · rw [show (rectS e).toLoadRect.idx (ix3 0 b l) = ix3 e b l from emb_S e 0 b l]; rfl

/-- A result of one row per routed expert holds those rows. -/
theorem canon_rowsL {ε : EltTy} (f : Fin 8 → Vec F S8x128 ε) (a k : Fin 8) (l : Fin 128) :
    View.canon (rowsL f) (ix3 a k l) = f k (ix2 a l) := by
  have hk : Fin.ofNat 8 k.val = k := Fin.ext (Nat.mod_eq_of_lt k.isLt)
  refine (canon_down (fun y : S8x8x128.Idx => f (y 1) (ix2 (y 0) (y 2))) _ 8 (fun i hi x => ?_) _ k.val k.isLt (ix3 a 0 l) ?_).trans ?_
  · obtain ⟨a', z, l', rfl⟩ : ∃ (a' : Fin 8) (z : Fin 1) (l' : Fin 128), x = ix3 a' z l' :=
      ⟨x 0, x 1, x 2, by funext a; fin_cases a <;> rfl⟩
    dsimp only
    rw [cast_row, emb_O]; rfl
  · dsimp only; rw [hk, emb_O]
  · rfl

/-- The rows of the accumulator loaded for an expert hold its dot products. -/
theorem load_acc (v : View sig .tc .vmem S576x128 .f32) (d : FVec F S64x1024 .f32) (e : Fin 64) (b : Fin 8) (l : Fin 128) :
    v.readCov (accL d) (rectA e).toLoadRect (ix2 b l) = d (ix2 e ⟨128 * b.val + l.val, by omega⟩) := by
  have hb : Fin.ofNat 8 b.val = b := Fin.ext (Nat.mod_eq_of_lt b.isLt)
  rw [View.readCov_eq_canon']
  refine (canon_down (fun y : S576x128.Idx => d (ix2 (⟨(y 0).val / 9, by have := (y 0).isLt; simp at this; omega⟩ : Fin 64)
      (⟨(128 * ((y 0).val % 9) + (y 1).val) % 1024, Nat.mod_lt _ (by decide)⟩ : Fin 1024))) _ 8 (fun i hi x => ?_) _ b.val b.isLt (ix2 e l) ?_).trans ?_
  · obtain ⟨e', l', rfl⟩ : ∃ (e' : Fin 64) (l' : Fin 128), x = ix2 e' l' := ⟨x 0, x 1, by funext a; fin_cases a <;> rfl⟩
    dsimp only
    have hi' : (Fin.ofNat 8 i).val = i := Nat.mod_eq_of_lt hi
    rw [cast_same, cut_cols _ _ (Fin.ofNat 8 i).isLt, emb_B]
    refine congrArg d (congrArg₂ ix2 (Fin.ext ?_) (Fin.ext ?_))
    · show e'.val = (9 * e'.val + (Fin.ofNat 8 i).val) / 9; omega
    · show 128 * (Fin.ofNat 8 i).val + l'.val = (128 * ((9 * e'.val + (Fin.ofNat 8 i).val) % 9) + l'.val) % 1024; omega
  · refine (emb_B e (Fin.ofNat 8 b.val) l).trans (Eq.trans ?_ (emb_A e b l).symm)
    simp only [hb]
  · rw [show (rectA e).toLoadRect.idx (ix2 b l) = ix2 ⟨9 * e.val + b.val, by omega⟩ l from emb_A e b l]
    refine congrArg d (congrArg₂ ix2 (Fin.ext ?_) (Fin.ext ?_))
    · show (9 * e.val + b.val) / 9 = e.val; omega
    · show (128 * ((9 * e.val + b.val) % 9) + l.val) % 1024 = 128 * b.val + l.val; omega

/-- A word of a table is loaded as it is. -/
theorem word_eq (arg : Memref sig .tc .smem S64 .f32) (h : arg.IsWhole) (x : Vec F S64 .f32) (e : Fin 64) :
    word arg h x e = x (ix1 e) := by
  unfold word
  rw [h.readAt_unread]
  refine congrArg x (funext fun a => ?_)
  fin_cases a
  refine Fin.ext ?_
  show e.val + 1 * (Shape.Idx.first (show 0 < S1.numel by decide) 0).val = e.val
  have : (Shape.Idx.first (show 0 < S1.numel by decide) 0).val < 1 := (Shape.Idx.first (show 0 < S1.numel by decide) 0).isLt
  omega

/-- Offsets of zero on two axes. -/
theorem zero2 : (![0, 0] : Fin 2 → Nat) = fun _ => 0 := funext fun a => by fin_cases a <;> rfl
/-- Offsets of zero on three axes. -/
theorem zero3 : (![0, 0, 0] : Fin 3 → Nat) = fun _ => 0 := funext fun a => by fin_cases a <;> rfl

/-- A load of a whole buffer holds its contents. -/
theorem load_whole {sp : Space} {S : Shape} {ε : EltTy} (arg : Memref sig .tc sp S ε) (h : arg.IsWhole) (X : S.Idx → Elt F ε)
    {off : Fin S.rank → Nat} (h0 : off = fun _ => 0) (inb : ∀ a, off a + S.size a ≤ S.size a) :
    View.readAt (Elt F) arg.view (Rect.unit off S.size inb).toLoadRect (h.unread X) = X := by
  rw [View.readAt_eq_ld, h.read_unread, View.ld_unit_zero h0]

end Cert.Router.Body

end
-- ==== Proof.Router.NetSort.lean ====
/- What the networks of `Net.lean` compute of the minimum and the maximum of a linear order: the sorted list and
   the first eight, each characterised by how many inputs are at most a bound (the zero-one principle: a bound
   turns the values into truth values, of which there are finitely many lists to check). -/
module

public import Mathlib.Algebra.BigOperators.Fin
public import Mathlib.Tactic.FinCases
public import Mathlib.Order.Basic
public import proofs.«01_k».proof.Proof.Router.Net

@[expose] public section

namespace Cert.Router

variable {α β : Type}

/-- A map that carries the step operations to others carries a step to a step. -/
theorem map_exchange (φ : α → β) (lo hi : α → α → α) (lo' hi' : β → β → β)
    (hl : ∀ x y, φ (lo x y) = lo' (φ x) (φ y)) (hh : ∀ x y, φ (hi x y) = hi' (φ x) (φ y)) (i j : Fin 8) (xs : Fin 8 → α) :
    (fun k => φ (exchange lo hi i j xs k)) = exchange lo' hi' i j fun k => φ (xs k) := by
  funext k; unfold exchange; split_ifs <;> simp [hl, hh]

/-- A map that carries the step operations to others carries a network's run to the run of the images. -/
theorem map_runNet (φ : α → β) (lo hi : Bool → α → α → α) (lo' hi' : Bool → β → β → β)
    (hl : ∀ b x y, φ (lo b x y) = lo' b (φ x) (φ y)) (hh : ∀ b x y, φ (hi b x y) = hi' b (φ x) (φ y))
    (net : List (Fin 8 × Fin 8 × Bool)) (xs : Fin 8 → α) :
    (fun k => φ (runNet lo hi net xs k)) = runNet lo' hi' net fun k => φ (xs k) := by
  induction net generalizing xs with
  | nil => rfl
  | cons p net ih =>
    obtain ⟨i, j, b⟩ := p
    simp only [runNet]
    rw [ih, map_exchange φ (lo b) (hi b) (lo' b) (hi' b) (hl b) (hh b)]

/-- A map that carries the step operations to others carries the first eight of four lists to those of the images. -/
theorem map_top8 (φ : α → β) (lo hi : Bool → α → α → α) (lo' hi' : Bool → β → β → β)
    (hl : ∀ b x y, φ (lo b x y) = lo' b (φ x) (φ y)) (hh : ∀ b x y, φ (hi b x y) = hi' b (φ x) (φ y))
    (xs : Fin 4 → Fin 8 → α) :
    (fun k => φ (top8 lo hi xs k)) = top8 lo' hi' fun s k => φ (xs s k) := by
  have hs : ∀ ys : Fin 8 → α, (fun k => φ (sort8 lo hi ys k)) = sort8 lo' hi' fun k => φ (ys k) := fun ys =>
    map_runNet φ lo hi lo' hi' hl hh sortNet ys
  have hm : ∀ a b : Fin 8 → α, (fun k => φ (merge8 lo hi a b k)) = merge8 lo' hi' (fun k => φ (a k)) fun k => φ (b k) := by
    intro a b
    unfold merge8
    rw [map_runNet φ lo hi lo' hi' hl hh mergeNet]
    congr 1; funext k; exact hl _ _ _
  unfold top8
  rw [hm, hm, hm, hs, hs, hs, hs]

/-! ## Truth values -/

/-- How many of eight truth values hold. -/
def cnt (v : Fin 8 → Bool) : Nat := ∑ k, (v k).toNat

/-- At most eight of eight hold. -/
theorem cnt_le (v : Fin 8 → Bool) : cnt v ≤ 8 := by
  have h : ∀ k, (v k).toNat ≤ 1 := fun k => Bool.toNat_le _
  unfold cnt
  rw [Fin.sum_univ_eight]
  have := h 0; have := h 1; have := h 2; have := h 3; have := h 4; have := h 5; have := h 6; have := h 7
  omega

/-- `or` and `and` in place of minimum and maximum. -/
abbrev bor (_ : Bool) (x y : Bool) : Bool := x || y
/-- Conjunction as a comparator. -/
abbrev band (_ : Bool) (x y : Bool) : Bool := x && y

/-- The sorting network on truth values: those that hold come first. -/
theorem sort8_bool : ∀ a b c d e f g h : Bool, ∀ k : Fin 8,
    sort8 bor band ![a, b, c, d, e, f, g, h] k
      = decide (k.val < a.toNat + b.toNat + c.toNat + d.toNat + e.toNat + f.toNat + g.toNat + h.toNat) := by
  decide +kernel

/-- The merge on truth values of which those that hold come first. -/
theorem merge8_bool : ∀ p q : Fin 9, ∀ k : Fin 8,
    merge8 bor band (fun i => decide (i.val < p.val)) (fun i => decide (i.val < q.val)) k = decide (k.val < p.val + q.val) := by
  decide +kernel

/-- The sorting network on truth values, by their number. -/
theorem sort8_bool' (v : Fin 8 → Bool) (k : Fin 8) : sort8 bor band v k = decide (k.val < cnt v) := by
  have hv : v = ![v 0, v 1, v 2, v 3, v 4, v 5, v 6, v 7] := by funext i; fin_cases i <;> rfl
  have h := sort8_bool (v 0) (v 1) (v 2) (v 3) (v 4) (v 5) (v 6) (v 7) k
  rw [← hv] at h
  rw [h, cnt, Fin.sum_univ_eight]

/-- The merging network on sorted truth values, by their numbers. -/
theorem merge8_bool' (a b : Fin 8 → Bool) (p q : Nat) (hp : p ≤ 8) (hq : q ≤ 8)
    (ha : ∀ i, a i = decide (i.val < p)) (hb : ∀ i, b i = decide (i.val < q)) (k : Fin 8) :
    merge8 bor band a b k = decide (k.val < min (p + q) 8) := by
  have h := merge8_bool ⟨p, by omega⟩ ⟨q, by omega⟩ k
  rw [funext ha, funext hb, h]
  have := k.isLt
  simp only [decide_eq_decide]; omega

/-- All the networks on truth values, by their number. -/
theorem top8_bool (xs : Fin 4 → Fin 8 → Bool) (k : Fin 8) : top8 bor band xs k = decide (k.val < ∑ s, cnt (xs s)) := by
  have h0 := cnt_le (xs 0); have h1 := cnt_le (xs 1); have h2 := cnt_le (xs 2); have h3 := cnt_le (xs 3)
  have hk := k.isLt
  unfold top8
  rw [merge8_bool' _ _ _ _ (min_le_right _ _) (min_le_right _ _)
    (merge8_bool' _ _ _ _ h0 h1 (sort8_bool' (xs 0)) (sort8_bool' (xs 1)))
    (merge8_bool' _ _ _ _ h2 h3 (sort8_bool' (xs 2)) (sort8_bool' (xs 3))), Fin.sum_univ_four]
  simp only [decide_eq_decide]; omega

/-! ## A linear order -/

section
variable [LinearOrder α]

/-- The minimum as a comparator. -/
abbrev mins (_ : Bool) (x y : α) : α := min x y
/-- The maximum as a comparator. -/
abbrev maxs (_ : Bool) (x y : α) : α := max x y

/-- Whether a minimum is at most `t`. -/
theorem dec_min (t x y : α) : decide (min x y ≤ t) = (decide (x ≤ t) || decide (y ≤ t)) := by
  rw [← Bool.decide_or, decide_eq_decide]; exact min_le_iff

/-- Whether a maximum is at most `t`. -/
theorem dec_max (t x y : α) : decide (max x y ≤ t) = (decide (x ≤ t) && decide (y ≤ t)) := by
  rw [← Bool.decide_and, decide_eq_decide]; exact max_le_iff

/-- The number `k` of the first eight is at most `t` exactly when more than `k` of the values are. -/
theorem top8_le (xs : Fin 4 → Fin 8 → α) (k : Fin 8) (t : α) :
    top8 mins maxs xs k ≤ t ↔ k.val < ∑ s, cnt fun j => decide (xs s j ≤ t) := by
  have h := congrFun (map_top8 (fun x => decide (x ≤ t)) mins maxs bor band (fun _ x y => dec_min t x y)
    (fun _ x y => dec_max t x y) xs) k
  rw [top8_bool] at h
  simpa using h

end

/-! ## The order that compares a part of the key only -/

/-- A step whose operations are among the two values. -/
theorem exchange_mem (lo hi : α → α → α) (hl : ∀ x y, lo x y = x ∨ lo x y = y) (hh : ∀ x y, hi x y = x ∨ hi x y = y)
    (i j : Fin 8) (xs : Fin 8 → α) (k : Fin 8) : ∃ l, exchange lo hi i j xs k = xs l := by
  unfold exchange
  split_ifs
  · rcases hl (xs i) (xs j) with h | h <;> exact ⟨_, h⟩
  · rcases hh (xs i) (xs j) with h | h <;> exact ⟨_, h⟩
  · exact ⟨k, rfl⟩

/-- A network whose operations are among the two values only moves values. -/
theorem runNet_mem (lo hi : Bool → α → α → α) (hl : ∀ b x y, lo b x y = x ∨ lo b x y = y)
    (hh : ∀ b x y, hi b x y = x ∨ hi b x y = y) (net : List (Fin 8 × Fin 8 × Bool)) (xs : Fin 8 → α) (k : Fin 8) :
    ∃ l, runNet lo hi net xs k = xs l := by
  induction net generalizing xs with
  | nil => exact ⟨k, rfl⟩
  | cons p net ih =>
    obtain ⟨i, j, b⟩ := p
    obtain ⟨l, h⟩ := ih (exchange (lo b) (hi b) i j xs)
    obtain ⟨l', h'⟩ := exchange_mem (lo b) (hi b) (hl b) (hh b) i j xs l
    exact ⟨l', h.trans h'⟩

/-- The intervals of labels that the positions may hold after a step. -/
def hull (i j : Fin 8) (S : Fin 8 → Nat × Nat) : Fin 8 → Nat × Nat := fun k =>
  if k = i ∨ k = j then (min (S i).1 (S j).1, max (S i).2 (S j).2) else S k

/-- Every step flagged `false` finds labels in increasing order. -/
def safe : List (Fin 8 × Fin 8 × Bool) → (Fin 8 → Nat × Nat) → Bool
  | [], _ => true
  | (i, j, b) :: r, S => (b || decide ((S i).2 < (S j).1)) && safe r (hull i j S)

/-- In the sorting network, comparators that ignore the id meet candidates in id order. -/
theorem safe_sortNet : safe sortNet (fun k => (k.val, k.val)) = true := by decide +kernel

/-- The merging network's comparators all look at the id. -/
theorem all_true_mergeNet : ∀ p ∈ mergeNet, p.2.2 = true := by decide

/-- Two runs whose operations agree wherever the flag is `true` or the labels increase agree on a safe network. -/
theorem runNet_congr (lab : α → Nat) (lo hi lo' hi' : Bool → α → α → α)
    (hl : ∀ b x y, lo' b x y = x ∨ lo' b x y = y) (hh : ∀ b x y, hi' b x y = x ∨ hi' b x y = y)
    (el : ∀ b x y, (b = true ∨ lab x < lab y) → lo b x y = lo' b x y)
    (eh : ∀ b x y, (b = true ∨ lab x < lab y) → hi b x y = hi' b x y)
    (net : List (Fin 8 × Fin 8 × Bool)) (S : Fin 8 → Nat × Nat) (hs : safe net S = true) (xs : Fin 8 → α)
    (hx : ∀ k, (S k).1 ≤ lab (xs k) ∧ lab (xs k) ≤ (S k).2) : runNet lo hi net xs = runNet lo' hi' net xs := by
  induction net generalizing xs S with
  | nil => rfl
  | cons p net ih =>
    obtain ⟨i, j, b⟩ := p
    simp only [safe, Bool.and_eq_true, Bool.or_eq_true, decide_eq_true_eq] at hs
    have hb : b = true ∨ lab (xs i) < lab (xs j) := by
      rcases hs.1 with h | h
      · exact .inl h
      · exact .inr (by have := (hx i).2; have := (hx j).1; omega)
    have e : exchange (lo b) (hi b) i j xs = exchange (lo' b) (hi' b) i j xs := by
      funext k; unfold exchange; rw [el b _ _ hb, eh b _ _ hb]
    simp only [runNet]
    rw [e]
    refine ih _ hs.2 _ fun k => ?_
    have hi1 := hx i; have hj1 := hx j; have hk1 := hx k
    unfold hull exchange
    by_cases h1 : k = i
    · simp only [h1, true_or, if_true]
      rcases hl b (xs i) (xs j) with h | h <;> rw [h] <;> omega
    · by_cases h2 : k = j
      · simp only [h1, h2, or_true, if_true]
        rw [if_neg (by rw [← h2]; exact h1)]
        rcases hh b (xs i) (xs j) with h | h <;> rw [h] <;> omega
      · simp only [h1, h2, or_self, if_false]; exact hk1

/-- Two runs whose operations agree on the flag `true` agree on a network of such steps. -/
theorem runNet_congr_true (lo hi lo' hi' : Bool → α → α → α) (el : lo true = lo' true) (eh : hi true = hi' true)
    (net : List (Fin 8 × Fin 8 × Bool)) (ht : ∀ p ∈ net, p.2.2 = true) (xs : Fin 8 → α) :
    runNet lo hi net xs = runNet lo' hi' net xs := by
  induction net generalizing xs with
  | nil => rfl
  | cons p net ih =>
    obtain ⟨i, j, b⟩ := p
    have hb : b = true := ht (i, j, b) (by simp)
    subst hb
    simp only [runNet]
    rw [el, eh]
    exact ih (fun q hq => ht q (by simp [hq])) _

/-- Where the labels of the four lists are consecutive and increase from list to list, comparing without the labels
    gives the same first eight as comparing with them. -/
theorem top8_congr (lab : α → Nat) (lo hi lo' hi' : Bool → α → α → α)
    (hl : ∀ b x y, lo' b x y = x ∨ lo' b x y = y) (hh : ∀ b x y, hi' b x y = x ∨ hi' b x y = y)
    (el : ∀ b x y, (b = true ∨ lab x < lab y) → lo b x y = lo' b x y)
    (eh : ∀ b x y, (b = true ∨ lab x < lab y) → hi b x y = hi' b x y)
    (xs : Fin 4 → Fin 8 → α) (g : Fin 4 → Nat) (hg : StrictMono g) (hx : ∀ s j, lab (xs s j) = 8 * g s + j.val) :
    top8 lo hi xs = top8 lo' hi' xs := by
  have hs : ∀ s, sort8 lo hi (xs s) = sort8 lo' hi' (xs s) := fun s =>
    runNet_congr (fun x => lab x - 8 * g s) lo hi lo' hi' hl hh
      (fun b x y h => el b x y (h.imp id (by omega))) (fun b x y h => eh b x y (h.imp id (by omega))) sortNet _ safe_sortNet _
      (fun k => by rw [hx]; dsimp only; omega)
  have hm : ∀ a b : Fin 8 → α, (∀ i j, lab (a i) < lab (b j)) → merge8 lo hi a b = merge8 lo' hi' a b := by
    intro a b h
    have : half lo a b = half lo' a b := funext fun i => el _ _ _ (.inr (h _ _))
    unfold merge8; rw [this]
    exact runNet_congr_true lo hi lo' hi' (by funext x y; exact el _ _ _ (.inl rfl)) (by funext x y; exact eh _ _ _ (.inl rfl))
      _ all_true_mergeNet _
  have ms : ∀ s k, ∃ j, sort8 lo' hi' (xs s) k = xs s j := fun s k => runNet_mem lo' hi' hl hh _ _ k
  have mm : ∀ a b : Fin 8 → α, ∀ k, (∃ i, merge8 lo' hi' a b k = a i) ∨ ∃ i, merge8 lo' hi' a b k = b i := by
    intro a b k
    obtain ⟨l, h⟩ := runNet_mem lo' hi' hl hh mergeNet (half lo' a b) k
    rcases hl false (a l) (b l.rev) with h' | h'
    · exact .inl ⟨_, h.trans h'⟩
    · exact .inr ⟨_, h.trans h'⟩
  have lt : ∀ s s' : Fin 4, s < s' → ∀ i j, lab (xs s i) < lab (xs s' j) := by
    intro s s' h i j
    have := hg h; have := i.isLt; rw [hx, hx]; omega
  have ls : ∀ s s' : Fin 4, s < s' → ∀ i j, lab (sort8 lo' hi' (xs s) i) < lab (sort8 lo' hi' (xs s') j) := by
    intro s s' h i j
    obtain ⟨a, ha⟩ := ms s i; obtain ⟨b, hb⟩ := ms s' j
    rw [ha, hb]; exact lt s s' h a b
  unfold top8
  rw [hs, hs, hs, hs, hm _ _ (ls 0 1 (by decide)), hm _ _ (ls 2 3 (by decide))]
  refine hm _ _ fun i j => ?_
  rcases mm (sort8 lo' hi' (xs 0)) (sort8 lo' hi' (xs 1)) i with ⟨a, ha⟩ | ⟨a, ha⟩ <;>
    rcases mm (sort8 lo' hi' (xs 2)) (sort8 lo' hi' (xs 3)) j with ⟨b, hb⟩ | ⟨b, hb⟩ <;>
    rw [ha, hb] <;> exact ls _ _ (by decide) _ _

end Cert.Router

end
-- ==== Proof.Router.Route.lean ====
/- The routing of one token, by its 64 choices: which groups are kept, and which eight experts the sorting networks
   select of them — those that repeatedly taking the first largest choice selects. -/
module

public import Mathlib.Data.Prod.Lex
public import Mathlib.Data.Fintype.Pi
public import Mathlib.Data.Finset.Max
public import Mathlib.Data.EReal.Basic
public import Mathlib.Tactic.IntervalCases
public import proofs.«01_k».proof.Proof.Router.NetSort

@[expose] public section

namespace Cert.Router

/-- A count of truth values is the number of indices at which they hold. -/
theorem cnt_eq_card (v : Fin 8 → Bool) : cnt v = (Finset.univ.filter fun k => v k = true).card := by
  unfold cnt
  rw [Finset.card_filter]
  refine Finset.sum_congr rfl fun k _ => ?_
  cases v k <;> rfl

/-! ## The kept groups -/

section
variable {C : Type} [LinearOrder C]

/-- Group `j` comes before group `g`: its score is larger, or the same and its number smaller. -/
def ahead (G : Fin 8 → C) (j g : Fin 8) : Bool := decide (G g < G j) || (decide (G j = G g) && decide (j.val < g.val))

/-- How many groups come before group `g`. -/
def rk (G : Fin 8 → C) (g : Fin 8) : Nat := cnt fun j => ahead G j g

/-- Whether group `g` is among the first four. -/
def keep (G : Fin 8 → C) (g : Fin 8) : Bool := decide (rk G g < 4)

/-- A group is ahead if its score is greater, or the same and its number smaller. -/
theorem ahead_iff (G : Fin 8 → C) (j g : Fin 8) : ahead G j g = true ↔ G g < G j ∨ (G j = G g ∧ j < g) := by
  simp [ahead]

/-- No group is ahead of itself. -/
theorem ahead_irrefl (G : Fin 8 → C) (g : Fin 8) : ¬ ahead G g g = true := by
  rw [ahead_iff]; rintro (h | h)
  · exact lt_irrefl _ h
  · exact lt_irrefl _ h.2

/-- Being ahead is transitive. -/
theorem ahead_trans (G : Fin 8 → C) {i j g : Fin 8} (h : ahead G i j = true) (h' : ahead G j g = true) : ahead G i g = true := by
  rw [ahead_iff] at *
  rcases h with h | ⟨h, hl⟩ <;> rcases h' with h' | ⟨h', hl'⟩
  · exact .inl (h'.trans h)
  · exact .inl (h' ▸ h)
  · exact .inl (h ▸ h')
  · exact .inr ⟨h.trans h', hl.trans hl'⟩

/-- Of two groups one is ahead. -/
theorem ahead_total (G : Fin 8 → C) {j g : Fin 8} (hne : j ≠ g) : ahead G j g = true ∨ ahead G g j = true := by
  simp only [ahead_iff]
  rcases lt_trichotomy (G j) (G g) with h | h | h
  · exact .inr (.inl h)
  · rcases lt_or_gt_of_ne hne with h' | h'
    · exact .inl (.inr ⟨h, h'⟩)
    · exact .inr (.inr ⟨h.symm, h'⟩)
  · exact .inl (.inl h)

/-- A group ahead has a smaller rank. -/
theorem rk_lt (G : Fin 8 → C) {j g : Fin 8} (h : ahead G j g = true) : rk G j < rk G g := by
  unfold rk
  rw [cnt_eq_card, cnt_eq_card]
  refine Finset.card_lt_card ⟨fun i hi => ?_, fun hs => ?_⟩
  · simp only [Finset.mem_filter, Finset.mem_univ, true_and] at hi ⊢
    exact ahead_trans G hi h
  · have := hs (show j ∈ Finset.univ.filter fun i => ahead G i g = true by simp [h])
    simp only [Finset.mem_filter, Finset.mem_univ, true_and] at this
    exact ahead_irrefl G j this

/-- Ranks differ. -/
theorem rk_inj (G : Fin 8 → C) {j g : Fin 8} (h : rk G j = rk G g) : j = g := by
  by_contra hne
  rcases ahead_total G hne with h' | h' <;> have := rk_lt G h' <;> omega

/-- Ranks are below eight. -/
theorem rk_lt_eight (G : Fin 8 → C) (g : Fin 8) : rk G g < 8 := by
  unfold rk
  rw [cnt_eq_card]
  have : (Finset.univ.filter fun j => ahead G j g = true).card < (Finset.univ : Finset (Fin 8)).card := by
    refine Finset.card_lt_card ⟨Finset.filter_subset _ _, fun hs => ?_⟩
    have := hs (Finset.mem_univ g)
    simp only [Finset.mem_filter, Finset.mem_univ, true_and] at this
    exact ahead_irrefl G g this
  simpa using this

/-- Exactly four groups are kept. -/
theorem cnt_keep (G : Fin 8 → C) : cnt (keep G) = 4 := by
  let σ : Fin 8 → Fin 8 := fun g => ⟨rk G g, rk_lt_eight G g⟩
  have hi : Function.Injective σ := fun j g h => rk_inj G (congrArg Fin.val h)
  have hb : Function.Bijective σ := Finite.injective_iff_bijective.mp hi
  have := (Equiv.ofBijective σ hb).sum_comp fun r : Fin 8 => (decide (r.val < 4)).toNat
  exact this.trans (by decide)

end

/-! ## Their numbers -/

/-- How many of the groups up to `g` are kept. -/
def upTo (k : Fin 8 → Bool) : Nat → Nat
  | 0 => (k 0).toNat
  | g + 1 => upTo k g + (k (Fin.ofNat 8 (g + 1))).toNat

/-- The kept group number `s`. -/
def pk (k : Fin 8 → Bool) (s : Nat) : Nat :=
  if s < upTo k s then s else if s < upTo k (s + 1) then s + 1 else if s < upTo k (s + 2) then s + 2
  else if s < upTo k (s + 3) then s + 3 else s + 4

set_option maxRecDepth 4000 in
/-- `pk_spec`, checked on every set of kept groups. -/
theorem pk_bool : ∀ a b c d e f g h : Bool,
    a.toNat + b.toNat + c.toNat + d.toNat + e.toNat + f.toNat + g.toNat + h.toNat = 4 →
    (∀ s : Fin 4, pk ![a, b, c, d, e, f, g, h] s < 8 ∧ ![a, b, c, d, e, f, g, h] (Fin.ofNat 8 (pk ![a, b, c, d, e, f, g, h] s)) = true)
    ∧ (∀ s t : Fin 4, s < t → pk ![a, b, c, d, e, f, g, h] s < pk ![a, b, c, d, e, f, g, h] t)
    ∧ ∀ i : Fin 8, ![a, b, c, d, e, f, g, h] i = true → ∃ s : Fin 4, pk ![a, b, c, d, e, f, g, h] s = i.val := by
  decide +kernel

/-- With four groups kept: the numbered groups are kept, in increasing order, and they are all. -/
theorem pk_spec (k : Fin 8 → Bool) (h4 : cnt k = 4) :
    (∀ s : Fin 4, pk k s < 8 ∧ k (Fin.ofNat 8 (pk k s)) = true) ∧ StrictMono (fun s : Fin 4 => pk k s)
    ∧ ∀ i : Fin 8, k i = true → ∃ s : Fin 4, pk k s = i.val := by
  have hv : k = ![k 0, k 1, k 2, k 3, k 4, k 5, k 6, k 7] := by funext i; fin_cases i <;> rfl
  rw [cnt, Fin.sum_univ_eight] at h4
  have h := pk_bool _ _ _ _ _ _ _ _ h4
  rw [← hv] at h
  exact ⟨h.1, fun s t hst => h.2.1 s t hst, h.2.2⟩

/-! ## The experts -/

/-- The group of an expert. -/
def grp (e : Fin 64) : Fin 8 := ⟨e.val / 8, by omega⟩

/-- The key experts are ordered by: the larger choice first, and the smaller number among equals. -/
abbrev Key : Type := ERealᵒᵈ ×ₗ Fin 64

/-- The key of an expert. -/
def key (c : Fin 64 → EReal) (e : Fin 64) : Key := toLex (OrderDual.toDual (c e), e)

/-- Experts' keys differ. -/
theorem key_inj (c : Fin 64 → EReal) : Function.Injective (key c) := fun _ _ h => congrArg (fun x : Key => (ofLex x).2) h

/-- Keys are ordered by greater choice first, then by smaller id. -/
theorem key_le (c : Fin 64 → EReal) (e f : Fin 64) : key c e ≤ key c f ↔ c f < c e ∨ (c e = c f ∧ e ≤ f) := by
  unfold key
  rw [Prod.Lex.toLex_le_toLex]
  simp [OrderDual.toDual_lt_toDual]

/-- Candidate `j` of the kept group number `s`. -/
def cd (k : Fin 8 → Bool) (s : Fin 4) (j : Fin 8) : Fin 64 := Fin.ofNat 64 (8 * pk k s + j.val)

/-- The key at position `n` of the candidates' order, as the networks find it. -/
noncomputable def routeKey (c : Fin 64 → EReal) (k : Fin 8 → Bool) : Fin 8 → Key := top8 mins maxs fun s j => key c (cd k s j)

section
variable (c : Fin 64 → EReal) (k : Fin 8 → Bool) (h4 : cnt k = 4)
include h4

/-- A candidate's number. -/
theorem cd_val (s : Fin 4) (j : Fin 8) : (cd k s j).val = 8 * pk k s + j.val := by
  have := ((pk_spec k h4).1 s).1; have := j.isLt
  simp only [cd, Fin.ofNat]; omega

/-- Candidates differ. -/
theorem cd_inj : Function.Injective fun p : Fin 4 × Fin 8 => cd k p.1 p.2 := by
  rintro ⟨s, j⟩ ⟨s', j'⟩ h
  have h := congrArg Fin.val h
  simp only [cd_val k h4] at h
  have hj : j = j' := Fin.ext (by omega)
  have hs : s = s' := (pk_spec k h4).2.1.injective (show pk k s = pk k s' by omega)
  rw [hs, hj]

/-- The candidates are the experts of the kept groups. -/
theorem mem_cd (e : Fin 64) : k (grp e) = true ↔ ∃ p : Fin 4 × Fin 8, cd k p.1 p.2 = e := by
  constructor
  · intro h
    obtain ⟨s, hs⟩ := (pk_spec k h4).2.2 _ h
    refine ⟨(s, ⟨e.val % 8, by omega⟩), Fin.ext ?_⟩
    rw [cd_val k h4, hs]; simp only [grp]; omega
  · rintro ⟨p, rfl⟩
    have h := (pk_spec k h4).1 p.1
    have : grp (cd k p.1 p.2) = Fin.ofNat 8 (pk k p.1) := by
      refine Fin.ext ?_
      have := cd_val k h4 p.1 p.2
      simp only [grp, Fin.ofNat]; omega
    rw [this]; exact h.2

/-- How many candidates have a key at most `t`, counted list by list or at once. -/
theorem sum_cnt (t : Key) : (∑ s, cnt fun j => decide (key c (cd k s j) ≤ t))
    = (Finset.univ.filter fun e => k (grp e) = true ∧ key c e ≤ t).card := by
  have h1 : (Finset.univ.filter fun e => k (grp e) = true ∧ key c e ≤ t)
      = (Finset.univ.filter fun p : Fin 4 × Fin 8 => key c (cd k p.1 p.2) ≤ t).image fun p => cd k p.1 p.2 := by
    ext e
    simp only [Finset.mem_filter, Finset.mem_univ, true_and, Finset.mem_image, mem_cd k h4]
    constructor
    · rintro ⟨⟨p, rfl⟩, h⟩; exact ⟨p, h, rfl⟩
    · rintro ⟨p, h, rfl⟩; exact ⟨⟨p, rfl⟩, h⟩
  rw [h1, Finset.card_image_of_injective _ (cd_inj k h4), Finset.card_filter, Fintype.sum_prod_type]
  refine Finset.sum_congr rfl fun s _ => ?_
  unfold cnt
  refine Finset.sum_congr rfl fun j _ => ?_
  by_cases h : key c (cd k s j) ≤ t <;> simp [h]

/-- Experts of which each is the candidate of the smallest key that is not among those before it are the networks'. -/
theorem routeKey_eq (e : Fin 8 → Fin 64) (hk : ∀ n, k (grp (e n)) = true) (hd : ∀ n m, m < n → e m ≠ e n)
    (hm : ∀ n f, k (grp f) = true → (∀ m, m < n → e m ≠ f) → key c (e n) ≤ key c f) (n : Fin 8) :
    routeKey c k n = key c (e n) := by
  refine eq_of_forall_ge_iff fun t => ?_
  unfold routeKey
  rw [top8_le, sum_cnt c k h4]
  have hinj : Function.Injective e := by
    intro a b h
    rcases lt_trichotomy a b with h' | h' | h'
    · exact absurd h (hd _ _ h')
    · exact h'
    · exact absurd h.symm (hd _ _ h')
  constructor
  · intro h
    by_contra hlt
    have hsub : (Finset.univ.filter fun f => k (grp f) = true ∧ key c f ≤ t) ⊆ (Finset.univ.filter fun m : Fin 8 => m < n).image e := by
      intro f hf
      simp only [Finset.mem_filter, Finset.mem_univ, true_and, Finset.mem_image] at hf ⊢
      by_contra hno
      exact hlt ((hm n f hf.1 fun m hmn he => hno ⟨m, hmn, he⟩).trans hf.2)
    have hc := Finset.card_le_card hsub
    rw [Finset.card_image_of_injective _ hinj] at hc
    have : (Finset.univ.filter fun m : Fin 8 => m < n).card = n.val := (by decide : ∀ n : Fin 8, (Finset.univ.filter fun m : Fin 8 => m < n).card = n.val) n
    omega
  · intro h
    have hsub : (Finset.univ.filter fun m : Fin 8 => m ≤ n).image e ⊆ Finset.univ.filter fun f => k (grp f) = true ∧ key c f ≤ t := by
      intro f hf
      simp only [Finset.mem_filter, Finset.mem_univ, true_and, Finset.mem_image] at hf ⊢
      obtain ⟨m, hmn, rfl⟩ := hf
      exact ⟨hk m, (hm m (e n) (hk n) fun m' h' => hd n m' (lt_of_lt_of_le h' hmn)).trans h⟩
    have hc := Finset.card_le_card hsub
    rw [Finset.card_image_of_injective _ hinj] at hc
    have : (Finset.univ.filter fun m : Fin 8 => m ≤ n).card = n.val + 1 := (by decide : ∀ n : Fin 8, (Finset.univ.filter fun m : Fin 8 => m ≤ n).card = n.val + 1) n
    omega

/-- After fewer than 32 candidates there is another one. -/
theorem exists_cand (l : List (Fin 64)) (hl : l.length < 32) : ∃ f, k (grp f) = true ∧ f ∉ l := by
  by_contra h
  have hsub : (Finset.univ : Finset (Fin 4 × Fin 8)).image (fun p => cd k p.1 p.2) ⊆ l.toFinset := by
    intro f hf
    simp only [Finset.mem_image, Finset.mem_univ, true_and] at hf
    by_contra hno
    exact h ⟨f, (mem_cd k h4 f).mpr hf, fun hfl => hno (List.mem_toFinset.mpr hfl)⟩
  have hc := Finset.card_le_card hsub
  rw [Finset.card_image_of_injective _ (cd_inj k h4)] at hc
  have h32 : (Finset.univ : Finset (Fin 4 × Fin 8)).card = 32 := by decide
  have := List.toFinset_card_le l
  omega

end

end Cert.Router

end
-- ==== Proof.Router.Token.lean ====
/- The router's mathematics for one token, over the extended reals: its logits, the softmax's scores, the choices, the
   groups that stay and the experts selected. -/
module

public import Idealize.ShloMosaic.Lib.Pointwise
public import Mathlib.Data.EReal.Operations
public import proofs.«01_k».proof.Proof.Router.Route

@[expose] public section

noncomputable section

namespace Cert.Router

open Idealize.ShloMosaic

/-- The maximum of finitely many values, minus infinity if there are none. -/
def mx {n : Nat} (f : Fin n → EReal) : EReal := Finset.fold max ⊥ f Finset.univ

/-- A maximum is at most `t` if all entries are. -/
theorem mx_le {n : Nat} (f : Fin n → EReal) (t : EReal) : mx f ≤ t ↔ ∀ i, f i ≤ t := by
  unfold mx; rw [Finset.fold_max_le]; simp

/-- Entries are at most the maximum. -/
theorem le_mx {n : Nat} (f : Fin n → EReal) (i : Fin n) : f i ≤ mx f := (mx_le f _).mp le_rfl i

/-- Of at least one value, the maximum is one. -/
theorem exists_mx (f : Fin 64 → EReal) : ∃ i, f i = mx f := by
  obtain ⟨i, -, hi⟩ := Finset.exists_max_image Finset.univ f ⟨0, Finset.mem_univ _⟩
  exact ⟨i, le_antisymm (le_mx f i) ((mx_le f _).mpr fun j => hi j (Finset.mem_univ _))⟩

/-- The logit of an expert: the dot product, scaled by the token's scale and by the expert's. -/
def logitT (x : Fin 2816 → EReal) (w : Fin 64 → Fin 2816 → EReal) (xs : EReal) (ws : Fin 64 → EReal) (e : Fin 64) : EReal :=
  (∑ d, x d * w e d) * xs * ws e

/-- The exponentials of the logits less their maximum. -/
def exT (l : Fin 64 → EReal) (e : Fin 64) : EReal := Ideal.exp (l e - mx l)

/-- The scores. -/
def scT (l : Fin 64 → EReal) (e : Fin 64) : EReal := if ∑ i, exT l i = 0 then 0 else Ideal.div (exT l e) (∑ i, exT l i)

/-- The choices: scores plus biases. -/
def chT (l bi : Fin 64 → EReal) (e : Fin 64) : EReal := scT l e + bi e

/-- A group's score. -/
def gsT (c : Fin 64 → EReal) (g : Fin 8) : EReal := mx fun j : Fin 8 => c (Fin.ofNat 64 (8 * g.val + j.val))

/-- The selected expert number `n`. -/
def selT (c : Fin 64 → EReal) (n : Fin 8) : Fin 64 := (ofLex (routeKey c (keep (gsT c)) n)).2

/-! ## The scores -/

/-- Exponentials are not negative. -/
theorem exp_nonneg (x : EReal) : 0 ≤ Ideal.exp x := by
  induction x with
  | bot => simp
  | top => simp
  | coe r => simp only [Ideal.exp_coe]; exact_mod_cast (Real.exp_pos r).le

/-- A sum of entries that are not negative is not negative. -/
theorem sum_nonneg' {n : Nat} (f : Fin n → EReal) (h : ∀ i, 0 ≤ f i) (s : Finset (Fin n)) : 0 ≤ ∑ i ∈ s, f i := by
  induction s using Finset.induction_on with
  | empty => simp
  | insert a s ha ih => rw [Finset.sum_insert ha]; exact add_nonneg (h a) ih

/-- If such a sum is 0, every entry is. -/
theorem eq_zero_of_sum {n : Nat} (f : Fin n → EReal) (h : ∀ i, 0 ≤ f i) (h0 : ∑ i, f i = 0) (i : Fin n) : f i = 0 := by
  have hi := Finset.add_sum_erase Finset.univ f (Finset.mem_univ i)
  have he := sum_nonneg' f h (Finset.univ.erase i)
  refine le_antisymm ?_ (h i)
  calc f i = f i + 0 := (add_zero _).symm
    _ ≤ f i + ∑ j ∈ Finset.univ.erase i, f j := add_le_add le_rfl he
    _ = 0 := hi.trans h0

/-- Nor is a reciprocal negative. -/
theorem inv_nonneg' {x : EReal} (h : 0 ≤ x) : 0 ≤ x⁻¹ := EReal.inv_nonneg_of_nonneg h

/-- Times the reciprocal of the sum is the score. -/
theorem mul_recip (l : Fin 64 → EReal) (e : Fin 64) : exT l e * Ideal.div 1 (∑ i, exT l i) = scT l e := by
  unfold scT
  have hz : ∀ i, 0 ≤ exT l i := fun i => exp_nonneg _
  split_ifs with h
  · rw [eq_zero_of_sum (exT l) hz h e, zero_mul]
  · unfold Ideal.div; rw [if_neg h, if_neg h, one_mul]

/-- Scores are not negative. -/
theorem scT_nonneg (l : Fin 64 → EReal) (e : Fin 64) : 0 ≤ scT l e := by
  unfold scT
  split_ifs with h
  · exact le_rfl
  · unfold Ideal.div; rw [if_neg h]
    exact mul_nonneg (exp_nonneg _) (inv_nonneg' (sum_nonneg' _ (fun i => exp_nonneg _) _))

/-- A bias above minus infinity leaves every choice above it. -/
theorem chT_ne_bot (l bi : Fin 64 → EReal) (e : Fin 64) (h : bi e ≠ ⊥) : chT l bi e ≠ ⊥ := by
  unfold chT
  rw [Ne, EReal.add_eq_bot_iff]
  rintro (h' | h')
  · have := scT_nonneg l e; rw [h'] at this; exact absurd this (by simp)
  · exact h h'

/-! ## Balanced trees -/

/-- A map through a tree. -/
theorem map_tree {α β : Type} (φ : α → β) (op : α → α → α) (op' : β → β → β) (h : ∀ x y, φ (op x y) = op' (φ x) (φ y))
    (n : Nat) (f : Nat → α) : φ (tree op n f) = tree op' n fun i => φ (f i) := by
  induction n generalizing f with
  | zero => rfl
  | succ n ih => simp only [tree, h, ih]

/-- A tree of additions is a sum. -/
theorem tree_add (n : Nat) (f : Nat → EReal) : tree (· + ·) n f = ∑ i ∈ Finset.range (2 ^ n), f i := by
  induction n generalizing f with
  | zero => simp [tree]
  | succ n ih => simp only [tree, ih, pow_succ, mul_two, Finset.sum_range_add]

/-- A tree of maxima is at most `t` if all entries are. -/
theorem tree_max_le (n : Nat) (f : Nat → EReal) (t : EReal) : tree max n f ≤ t ↔ ∀ i, i < 2 ^ n → f i ≤ t := by
  induction n generalizing f with
  | zero => simp [tree]
  | succ n ih =>
    simp only [tree, max_le_iff, ih, pow_succ, mul_two]
    constructor
    · rintro ⟨h1, h2⟩ i hi
      by_cases h : i < 2 ^ n
      · exact h1 i h
      · have := h2 (i - 2 ^ n) (by omega)
        rwa [show 2 ^ n + (i - 2 ^ n) = i by omega] at this
    · exact fun h => ⟨fun i hi => h i (by omega), fun i hi => h _ (by omega)⟩

/-- A tree of additions over the experts is their sum. -/
theorem tree_add_fin (f : Fin 64 → EReal) : tree (· + ·) 6 (fun i => f (Fin.ofNat 64 i)) = ∑ i, f i := by
  rw [tree_add, Finset.sum_range]
  refine Finset.sum_congr rfl fun i _ => congrArg f (Fin.ext ?_)
  exact Nat.mod_eq_of_lt i.isLt

/-- A tree of maxima over the experts is their maximum. -/
theorem tree_max_fin (f : Fin 64 → EReal) : tree max 6 (fun i => f (Fin.ofNat 64 i)) = mx f := by
  refine eq_of_forall_ge_iff fun t => ?_
  rw [tree_max_le, mx_le]
  refine ⟨fun h i => ?_, fun h i _ => h _⟩
  have := h i.val i.isLt
  rwa [show Fin.ofNat 64 i.val = i from Fin.ext (Nat.mod_eq_of_lt i.isLt)] at this

/-- A tree of maxima over a group is its maximum. -/
theorem tree_max_eight (f : Nat → EReal) : tree max 3 f = mx fun j : Fin 8 => f j.val := by
  refine eq_of_forall_ge_iff fun t => ?_
  rw [tree_max_le, mx_le]
  exact ⟨fun h i => h i.val i.isLt, fun h i hi => h ⟨i, hi⟩⟩

/-! ## Repeated selection of the first largest value -/

/-- The word that the reduction over the positions of the largest value gives. -/
def firstW (m : Fin 64 → EReal) : BitVec 32 :=
  Finset.fold IntOp.minsi 2147483647#32 (fun x => if m x = mx m then BitVec.ofNat 32 x.val else 64#32) Finset.univ

/-- The signed minimum of words, as numbers. -/
theorem toInt_minsi (x y : BitVec 32) : (IntOp.minsi x y).toInt = min x.toInt y.toInt := by
  unfold IntOp.minsi
  rw [BitVec.slt_eq_decide]
  split_ifs with h <;> simp only [decide_eq_true_eq] at h <;> omega

/-- An expert's id as a word is its number. -/
theorem toInt_ofNat (e : Fin 64) : (BitVec.ofNat 32 e.val).toInt = e.val := by
  revert e; decide

/-- It is the first position of the largest value. -/
theorem firstW_spec (m : Fin 64 → EReal) :
    ∃ e : Fin 64, firstW m = BitVec.ofNat 32 e.val ∧ (∀ f, m f ≤ m e) ∧ ∀ f, m f = m e → e ≤ f := by
  obtain ⟨i, hi⟩ := exists_mx m
  obtain ⟨e, he, hmin⟩ := Finset.exists_min_image (Finset.univ.filter fun f => m f = mx m) id ⟨i, by simp [hi]⟩
  simp only [Finset.mem_filter, Finset.mem_univ, true_and, id] at he hmin
  refine ⟨e, ?_, fun f => he ▸ le_mx m f, fun f hf => hmin f (hf.trans he)⟩
  apply BitVec.toInt_inj.mp
  unfold firstW
  rw [← Finset.fold_hom (op := IntOp.minsi) (op' := min) toInt_minsi, toInt_ofNat]
  refine le_antisymm ?_ ?_
  · rw [Finset.fold_min_le]
    exact .inr ⟨e, Finset.mem_univ _, by rw [if_pos he, toInt_ofNat]⟩
  · rw [Finset.le_fold_min]
    have hlt := e.isLt
    refine ⟨by simp only [show (2147483647#32).toInt = 2147483647 by decide]; omega, fun f _ => ?_⟩
    split_ifs with h
    · rw [toInt_ofNat]; exact_mod_cast hmin f h
    · simp only [show (64#32).toInt = 64 by decide]; omega

/-- The first position of the largest value. -/
def first (m : Fin 64 → EReal) : Fin 64 := (firstW_spec m).choose
/-- The least word of the greatest entries is that of `first`. -/
theorem firstW_eq (m : Fin 64 → EReal) : firstW m = BitVec.ofNat 32 (first m).val := (firstW_spec m).choose_spec.1
/-- `first` has the greatest entry. -/
theorem le_first (m : Fin 64 → EReal) (f : Fin 64) : m f ≤ m (first m) := (firstW_spec m).choose_spec.2.1 f
/-- `first` is the first of those. -/
theorem first_le (m : Fin 64 → EReal) (f : Fin 64) (h : m f = m (first m)) : first m ≤ f := (firstW_spec m).choose_spec.2.2 f h

/-- The values after `n` selections, the selected ones turned to minus infinity. -/
def aft (m : Fin 64 → EReal) : Nat → Fin 64 → EReal
  | 0 => m
  | n + 1 => fun f => if f = first (aft m n) then ⊥ else aft m n f

/-- The entries after `n` rounds. -/
theorem aft_eq (m : Fin 64 → EReal) (n : Nat) (f : Fin 64) :
    (aft m n f = m f ∧ ∀ i, i < n → first (aft m i) ≠ f) ∨ (aft m n f = ⊥ ∧ ∃ i, i < n ∧ first (aft m i) = f) := by
  induction n with
  | zero => exact .inl ⟨rfl, fun i hi => absurd hi (Nat.not_lt_zero i)⟩
  | succ n ih =>
    simp only [aft]
    by_cases h : f = first (aft m n)
    · exact .inr ⟨by rw [if_pos h], n, Nat.lt_succ_self n, h.symm⟩
    · rw [if_neg h]
      rcases ih with ⟨h1, h2⟩ | ⟨h1, i, hi, h2⟩
      · refine .inl ⟨h1, fun i hi => ?_⟩
        rcases Nat.lt_succ_iff_lt_or_eq.mp hi with h' | rfl
        · exact h2 i h'
        · exact fun h' => h h'.symm
      · exact .inr ⟨h1, i, hi.trans (Nat.lt_succ_self n), h2⟩

/-- The choices of the experts in kept groups, and minus infinity elsewhere. -/
def mkT (c : Fin 64 → EReal) (e : Fin 64) : EReal := if keep (gsT c) (grp e) = true then c e else ⊥

/-- Selecting the first largest choice eight times selects what the networks do. -/
theorem first_eq (c : Fin 64 → EReal) (hc : ∀ e, c e ≠ ⊥) (n : Fin 8) : first (aft (mkT c) n.val) = selT c n := by
  have h4 := cnt_keep (gsT c)
  have key0 : ∀ n : Nat, n < 8 → keep (gsT c) (grp (first (aft (mkT c) n))) = true
      ∧ aft (mkT c) n (first (aft (mkT c) n)) = c (first (aft (mkT c) n))
      ∧ ∀ i, i < n → first (aft (mkT c) i) ≠ first (aft (mkT c) n) := by
    intro n hn
    obtain ⟨f, hf, hfl⟩ := exists_cand (keep (gsT c)) h4 ((List.range n).map fun i => first (aft (mkT c) i)) (by simp; omega)
    have hff : aft (mkT c) n f = c f := by
      rcases aft_eq (mkT c) n f with ⟨h1, -⟩ | ⟨-, i, hi, h2⟩
      · rw [h1, mkT, if_pos hf]
      · exact absurd (List.mem_map.mpr ⟨i, List.mem_range.mpr hi, h2⟩) hfl
    have hne : aft (mkT c) n (first (aft (mkT c) n)) ≠ ⊥ := fun h => hc f (by
      have := le_first (aft (mkT c) n) f
      rw [h, hff] at this
      exact le_bot_iff.mp this)
    rcases aft_eq (mkT c) n (first (aft (mkT c) n)) with ⟨h1, h2⟩ | ⟨h1, -⟩
    · rw [h1] at hne ⊢
      generalize first (aft (mkT c) n) = e at hne h2 ⊢
      by_cases hk : keep (gsT c) (grp e) = true
      · exact ⟨hk, if_pos hk, h2⟩
      · exact absurd (if_neg hk) hne
    · exact absurd h1 hne
  have h := routeKey_eq c (keep (gsT c)) h4 (fun n => first (aft (mkT c) n.val)) (fun n => (key0 n.val n.isLt).1)
    (fun n m hm => (key0 n.val n.isLt).2.2 m.val hm) (fun n f hf hp => by
      have hff : aft (mkT c) n.val f = c f := by
        rcases aft_eq (mkT c) n.val f with ⟨h1, -⟩ | ⟨-, i, hi, h2⟩
        · rw [h1, mkT, if_pos hf]
        · exact absurd h2 (hp ⟨i, hi.trans n.isLt⟩ hi)
      have hl := le_first (aft (mkT c) n.val) f
      have he := (key0 n.val n.isLt).2.1
      rw [key_le]
      rcases lt_or_eq_of_le hl with h' | h'
      · left; rwa [hff, he] at h'
      · right; exact ⟨by rw [← he, ← h', hff], first_le _ _ h'⟩) n
  unfold selT
  rw [h]
  rfl

/-! ## Words and truth values -/

/-- The pattern of minus infinity. -/
theorem ofBits_bot : Ideal.ofBits .f32 0xFF800000#32 = ⊥ := by simp [Ideal.ofBits, Ideal.ieee]

/-- A select by a truth value. -/
theorem select_ofBool {α : Type} (p : Bool) (x y : α) : Scalar.select (BitVec.ofBool p) x y = if p = true then x else y := by
  cases p <;> rfl

/-- Ids are equal as words if they are as numbers. -/
theorem ofNat_inj (e f : Fin 64) : (BitVec.ofNat 32 e.val == BitVec.ofNat 32 f.val) = decide (e = f) := by
  revert e f; decide +kernel

/-- A rank's word is below four if the rank is. -/
theorem slt_four (n : Nat) (h : n ≤ 8) : IntOp.cmpi .slt (BitVec.ofNat 32 n) 4#32 = BitVec.ofBool (decide (n < 4)) := by
  have : ∀ n : Fin 9, IntOp.cmpi .slt (BitVec.ofNat 32 n.val) 4#32 = BitVec.ofBool (decide (n.val < 4)) := by decide
  exact this ⟨n, by omega⟩

/-- Group numbers compare as words as they do as numbers. -/
theorem slt_small (j g : Fin 8) : IntOp.cmpi .slt (BitVec.ofNat 32 j.val) (BitVec.ofNat 32 g.val) = BitVec.ofBool (decide (j.val < g.val)) := by
  revert j g; decide

/-- The or of truth values. -/
theorem ori_ofBool (p q : Bool) : IntOp.ori (BitVec.ofBool p) (BitVec.ofBool q) = BitVec.ofBool (p || q) := by cases p <;> cases q <;> rfl
/-- The and of truth values. -/
theorem andi_ofBool (p q : Bool) : IntOp.andi (BitVec.ofBool p) (BitVec.ofBool q) = BitVec.ofBool (p && q) := by cases p <;> cases q <;> rfl

end Cert.Router

end
-- ==== Proof.Router.Lane.lean ====
/- The kernel's vectors read at one lane: the mathematics of `Token.lean` of that lane's token, up to the kept groups'
   candidates. -/
module

public import Idealize.ShloMosaic.Lib.IdealHost
public import proofs.«01_k».proof.Proof.Router.Vec
public import proofs.«01_k».proof.Proof.Router.Token

@[expose] public section

noncomputable section

namespace Cert.Router.Vec

open Idealize.ShloMosaic Cert.KernelIdeal Cert.KernelIdeal.Facts

variable (i : S8x128.Idx)

section
variable (lg : Nat → FVec Ideal S8x128 .f32) (L : Fin 64 → EReal) (hL : ∀ e : Nat, lg e i = L (Fin.ofNat 64 e))
include hL

/-- The kernel's exponentials. -/
theorem ex_lane (e : Nat) : ex lg e i = exT L (Fin.ofNat 64 e) := by
  have h : tree maximumf 6 lg i = mx L := by
    rw [map_tree (fun v : FVec Ideal S8x128 .f32 => v i) maximumf (max : EReal → EReal → EReal) (fun _ _ => rfl), ← tree_max_fin]
    simp only [hL]
  show Ideal.exp (lg e i - tree maximumf 6 lg i) = _
  rw [h, hL]; rfl

/-- The kernel's scores. -/
theorem sc_lane (e : Nat) : sc lg e i = scT L (Fin.ofNat 64 e) := by
  have h : tree addf 6 (ex lg) i = ∑ e, exT L e := by
    rw [map_tree (fun v : FVec Ideal S8x128 .f32 => v i) addf ((· + ·) : EReal → EReal → EReal) (fun _ _ => rfl), ← tree_add_fin]
    simp only [ex_lane i lg L hL]
  show ex lg e i * Ideal.div (Ideal.ofBits .f32 0x3F800000#32) (tree addf 6 (ex lg) i) = _
  rw [h, ex_lane i lg L hL, Ideal.ofBits_one_f32, mul_recip]

/-- The kernel's choices. -/
theorem ch_lane (bi : Fin 64 → EReal) (e : Nat) : ch (F := Ideal) lg bi e i = chT L bi (Fin.ofNat 64 e) := by
  show sc lg e i + bi (Fin.ofNat 64 e) = _
  rw [sc_lane i lg L hL]; rfl
end

/-- The kernel's group scores. -/
theorem gs_lane (c : Nat → FVec Ideal S8x128 .f32) (C : Fin 64 → EReal) (hC : ∀ e : Nat, c e i = C (Fin.ofNat 64 e)) (g : Fin 8) :
    gs c g.val i = gsT C g := by
  unfold gs gsT
  rw [map_tree (fun v : FVec Ideal S8x128 .f32 => v i) maximumf (max : EReal → EReal → EReal) (fun _ _ => rfl), tree_max_eight]
  simp only [hC]

/-- At most `g + 1` of the groups up to `g` are kept. -/
theorem upTo_le (k : Fin 8 → Bool) (g : Nat) : upTo k g ≤ g + 1 := by
  induction g with
  | zero => exact Bool.toNat_le _
  | succ g ih => have := Bool.toNat_le (k (Fin.ofNat 8 (g + 1))); unfold upTo; omega

/-- Small words compare as their numbers. -/
theorem sgt_small : ∀ (n : Fin 9) (s : Fin 4), IntOp.cmpi .sgt (BitVec.ofNat 32 n.val) (BitVec.ofNat 32 s.val) = BitVec.ofBool (decide (s.val < n.val)) := by
  decide

/-! ## Ranks -/

/-- A group's rank of the outcomes of its comparisons, in words. -/
def rankW (p : Fin 8 → Bool) (g : Nat) : BitVec 32 :=
  (List.range' (g + 1) (7 - g)).foldl (fun r k => IntOp.subi r (BitVec.setWidth 32 (BitVec.ofBool (p (Fin.ofNat 8 k)))))
    ((List.range' 0 g).foldl (fun r j => IntOp.addi r (BitVec.setWidth 32 (BitVec.ofBool (p (Fin.ofNat 8 j))))) (BitVec.ofNat 32 (7 - g)))

/-- The comparison outcomes that put a group ahead. -/
def aheadB (p : Fin 8 → Bool) (g j : Fin 8) : Bool := if j < g then p j else if j = g then false else !p j

set_option maxRecDepth 4000 in
/-- The rank in words is the number of groups ahead, checked on every outcome. -/
theorem rankW_bool : ∀ a b c d e f g h : Bool, ∀ n : Fin 8, rankW ![a, b, c, d, e, f, g, h] n.val
    = BitVec.ofNat 32 ((aheadB ![a, b, c, d, e, f, g, h] n 0).toNat + (aheadB ![a, b, c, d, e, f, g, h] n 1).toNat
      + (aheadB ![a, b, c, d, e, f, g, h] n 2).toNat + (aheadB ![a, b, c, d, e, f, g, h] n 3).toNat
      + (aheadB ![a, b, c, d, e, f, g, h] n 4).toNat + (aheadB ![a, b, c, d, e, f, g, h] n 5).toNat
      + (aheadB ![a, b, c, d, e, f, g, h] n 6).toNat + (aheadB ![a, b, c, d, e, f, g, h] n 7).toNat) := by
  decide +kernel

/-- The rank in words is the number of groups ahead. -/
theorem rankW_eq (p : Fin 8 → Bool) (n : Fin 8) : rankW p n.val = BitVec.ofNat 32 (cnt (aheadB p n)) := by
  have hv : p = ![p 0, p 1, p 2, p 3, p 4, p 5, p 6, p 7] := by funext i; fin_cases i <;> rfl
  have h := rankW_bool (p 0) (p 1) (p 2) (p 3) (p 4) (p 5) (p 6) (p 7) n
  rw [← hv] at h
  rw [h, cnt, Fin.sum_univ_eight]

/-- A fold of vectors read at a lane is the fold of the lanes. -/
theorem foldl_lane (op : IVec S8x128 32 → IVec S8x128 32 → IVec S8x128 32) (op' : BitVec 32 → BitVec 32 → BitVec 32)
    (h : ∀ x y, op x y i = op' (x i) (y i)) (v : Nat → IVec S8x128 32) (w : Nat → BitVec 32) (l : List Nat)
    (hw : ∀ k ∈ l, v k i = w k) (x : IVec S8x128 32) :
    l.foldl (fun r k => op r (v k)) x i = l.foldl (fun r k => op' r (w k)) (x i) := by
  induction l generalizing x with
  | nil => rfl
  | cons a l ih => simp only [List.foldl_cons]; rw [ih (fun k hk => hw k (by simp [hk])), h, hw a (by simp)]

section
variable (G : Nat → FVec Ideal S8x128 .f32) (Gs : Fin 8 → EReal) (hG : ∀ g : Fin 8, G g.val i = Gs g)
include hG

/-- One comparison of two group scores at a lane. -/
theorem beats_lane (j g : Fin 8) : beats G j.val g.val i = BitVec.setWidth 32 (BitVec.ofBool (decide (Gs g ≤ Gs j))) := by
  rw [← hG g, ← hG j]; rfl

/-- The kernel's ranks. -/
theorem rank_lane (g : Fin 8) : rank G g.val i = BitVec.ofNat 32 (rk Gs g) := by
  have hg := g.isLt
  have h : rank G g.val i = rankW (fun j => if j < g then decide (Gs g ≤ Gs j) else decide (Gs j ≤ Gs g)) g.val := by
    unfold rank rankW
    rw [foldl_lane i subi IntOp.subi (fun _ _ => rfl) _
      (fun k => BitVec.setWidth 32 (BitVec.ofBool (if Fin.ofNat 8 k < g then decide (Gs g ≤ Gs (Fin.ofNat 8 k)) else decide (Gs (Fin.ofNat 8 k) ≤ Gs g)))) _
      (fun k hk => ?_),
      foldl_lane i addi IntOp.addi (fun _ _ => rfl) _
      (fun k => BitVec.setWidth 32 (BitVec.ofBool (if Fin.ofNat 8 k < g then decide (Gs g ≤ Gs (Fin.ofNat 8 k)) else decide (Gs (Fin.ofNat 8 k) ≤ Gs g)))) _
      (fun k hk => ?_)]
    · rfl
    · rw [List.mem_range'_1] at hk
      obtain ⟨j, rfl⟩ : ∃ j : Fin 8, k = j.val := ⟨⟨k, by omega⟩, rfl⟩
      rw [show Fin.ofNat 8 j.val = j from Fin.ext (Nat.mod_eq_of_lt j.isLt), if_pos (by rw [Fin.lt_def]; omega)]
      exact beats_lane i G Gs hG j g
    · rw [List.mem_range'_1] at hk
      obtain ⟨j, rfl⟩ : ∃ j : Fin 8, k = j.val := ⟨⟨k, by omega⟩, rfl⟩
      rw [show Fin.ofNat 8 j.val = j from Fin.ext (Nat.mod_eq_of_lt j.isLt), if_neg (by rw [Fin.lt_def]; omega)]
      exact beats_lane i G Gs hG g j
  rw [h, rankW_eq]
  unfold rk
  congr 2; funext j
  rw [Bool.eq_iff_iff, ahead_iff]
  unfold aheadB
  beta_reduce
  rcases lt_trichotomy j g with h' | rfl | h'
  · rw [if_pos h', if_pos h', decide_eq_true_iff, le_iff_lt_or_eq]
    exact ⟨fun h => h.imp id fun h => ⟨h.symm, h'⟩, fun h => h.imp id fun h => h.1.symm⟩
  · simp
  · rw [if_neg h'.not_gt, if_neg h'.ne', if_neg h'.not_gt]
    simp only [Bool.not_eq_true', decide_eq_false_iff_not, not_le]
    exact ⟨fun h => .inl h, fun h => h.elim id fun h => absurd h.2 h'.not_gt⟩

/-- Whether the kernel keeps a group. -/
theorem kept_lane (g : Fin 8) : kept (rank G) g.val i = BitVec.setWidth 32 (BitVec.ofBool (keep Gs g)) := by
  show BitVec.setWidth 32 (IntOp.cmpi .slt (rank G g.val i) 4#32) = _
  rw [rank_lane i G Gs hG, slt_four _ (Nat.le_of_lt (rk_lt_eight Gs g))]
  rfl

/-- The kernel's counts of kept groups. -/
theorem count_lane (g : Nat) (hg : g < 8) : count (rank G) g i = BitVec.ofNat 32 (upTo (keep Gs) g) := by
  induction g with
  | zero => exact (kept_lane i G Gs hG 0).trans (by unfold upTo; cases keep Gs 0 <;> rfl)
  | succ g ih =>
    show count (rank G) g i + kept (rank G) (g + 1) i = _
    rw [ih (by omega), show kept (rank G) (g + 1) i = _ from kept_lane i G Gs hG ⟨g + 1, hg⟩]
    rw [show upTo (keep Gs) (g + 1) = upTo (keep Gs) g + (keep Gs (Fin.ofNat 8 (g + 1))).toNat from rfl,
      show Fin.ofNat 8 (g + 1) = ⟨g + 1, hg⟩ from Fin.ext (Nat.mod_eq_of_lt hg), BitVec.ofNat_add]
    cases keep Gs ⟨g + 1, hg⟩ <;> rfl

/-- Whether the kernel's kept group number `s` is at most `s + j`. -/
theorem mask_lane (s : Fin 4) (j : Nat) (hj : j < 4) :
    mask (count (rank G)) s.val j i = BitVec.ofBool (decide (s.val < upTo (keep Gs) (s.val + j))) := by
  have := upTo_le (keep Gs) (s.val + j)
  show IntOp.cmpi .sgt (count (rank G) (s.val + j) i) (BitVec.ofNat 32 s.val) = _
  rw [count_lane i G Gs hG _ (by omega)]
  exact sgt_small ⟨upTo (keep Gs) (s.val + j), by omega⟩ s

/-- The kernel's selection of a kept group's value. -/
theorem pick_lane (s : Fin 4) {ε : Type} (v : Nat → S8x128.Idx → ε) :
    pick (count (rank G)) s.val v i = v (pk (keep Gs) s.val) i := by
  show Scalar.select (mask (count (rank G)) s.val 0 i) (v s.val i) (Scalar.select (mask (count (rank G)) s.val 1 i) (v (s.val + 1) i)
    (Scalar.select (mask (count (rank G)) s.val 2 i) (v (s.val + 2) i)
      (Scalar.select (mask (count (rank G)) s.val 3 i) (v (s.val + 3) i) (v (s.val + 4) i)))) = _
  rw [mask_lane i G Gs hG s 0 (by decide), mask_lane i G Gs hG s 1 (by decide), mask_lane i G Gs hG s 2 (by decide),
    mask_lane i G Gs hG s 3 (by decide)]
  simp only [select_ofBool, decide_eq_true_eq, Nat.add_zero]
  unfold pk
  split_ifs <;> rfl

end

end Cert.Router.Vec

end
-- ==== Proof.Router.LaneRoute.lean ====
/- The kernel's routed experts read at one lane: the experts of `Token.lean`, with their scores. -/
module

public import proofs.«01_k».proof.Proof.Router.Lane

@[expose] public section

noncomputable section

namespace Cert.Router.Vec

open Idealize.ShloMosaic Cert.KernelIdeal Cert.KernelIdeal.Facts

/-! ## Order of two keys -/

/-- Keys are ordered by greater choice first, then by smaller id. -/
theorem key_le' (a b : EReal) (e f : Fin 64) :
    (toLex (OrderDual.toDual a, e) : Key) ≤ toLex (OrderDual.toDual b, f) ↔ b < a ∨ (a = b ∧ e ≤ f) := by
  rw [Prod.Lex.toLex_le_toLex]
  rfl

/-- Whether the first of two keys is taken for the earlier one; the labels are compared where asked. -/
def before (b : Bool) (x y : Key) : Bool :=
  let p := OrderDual.ofDual (ofLex x).1
  let q := OrderDual.ofDual (ofLex y).1
  bif b then decide (q < p) || (decide (p = q) && decide ((ofLex x).2 < (ofLex y).2)) else decide (q ≤ p)

/-- The earlier of two keys, as a comparator takes it. -/
def loK (b : Bool) (x y : Key) : Key := if before b x y = true then x else y
/-- The later of two keys, as a comparator takes it. -/
def hiK (b : Bool) (x y : Key) : Key := if before b x y = true then y else x

/-- Where the labels are compared or already in order, the order taken is the keys'. -/
theorem before_le (b : Bool) (x y : Key) (h : b = true ∨ (ofLex x).2.val < (ofLex y).2.val) :
    if before b x y = true then x ≤ y else y ≤ x := by
  obtain ⟨p, e, rfl⟩ : ∃ (p : EReal) (e : Fin 64), x = toLex (OrderDual.toDual p, e) := ⟨_, _, rfl⟩
  obtain ⟨q, f, rfl⟩ : ∃ (p : EReal) (e : Fin 64), y = toLex (OrderDual.toDual p, e) := ⟨_, _, rfl⟩
  rw [key_le', key_le']
  cases b with
  | true =>
    have hb : before true (toLex (OrderDual.toDual p, e)) (toLex (OrderDual.toDual q, f)) = true ↔ q < p ∨ (p = q ∧ e < f) := by
      simp only [before, ofLex_toLex, OrderDual.ofDual_toDual, cond_true, Bool.or_eq_true, Bool.and_eq_true]
      exact or_congr decide_eq_true_iff (and_congr decide_eq_true_iff decide_eq_true_iff)
    by_cases h' : q < p ∨ (p = q ∧ e < f)
    · rw [if_pos (hb.2 h')]
      exact h'.imp id fun h => ⟨h.1, h.2.le⟩
    · rw [if_neg (mt hb.1 h')]
      rcases lt_trichotomy p q with h1 | h1 | h1
      · exact .inl h1
      · exact .inr ⟨h1.symm, not_lt.1 fun h2 => h' (.inr ⟨h1, h2⟩)⟩
      · exact absurd (.inl h1) h'
  | false =>
    have h : e < f := h.resolve_left Bool.false_ne_true
    have hb : before false (toLex (OrderDual.toDual p, e)) (toLex (OrderDual.toDual q, f)) = true ↔ q ≤ p := by
      simp only [before, ofLex_toLex, OrderDual.ofDual_toDual, cond_false]
      exact decide_eq_true_iff
    by_cases h' : q ≤ p
    · rw [if_pos (hb.2 h')]
      exact h'.lt_or_eq.imp id fun h1 => ⟨h1.symm, h.le⟩
    · rw [if_neg (mt hb.1 h')]
      exact .inl (not_le.1 h')

/-- A comparator's earlier key is the smaller one. -/
theorem loK_eq (b : Bool) (x y : Key) (h : b = true ∨ (ofLex x).2.val < (ofLex y).2.val) : loK b x y = mins b x y := by
  have := before_le b x y h
  unfold loK mins
  split_ifs at this ⊢
  · exact (min_eq_left this).symm
  · exact (min_eq_right this).symm

/-- A comparator's later key is the greater one. -/
theorem hiK_eq (b : Bool) (x y : Key) (h : b = true ∨ (ofLex x).2.val < (ofLex y).2.val) : hiK b x y = maxs b x y := by
  have := before_le b x y h
  unfold hiK maxs
  split_ifs at this ⊢
  · exact (max_eq_right this).symm
  · exact (max_eq_left this).symm

/-! ## One lane's candidates -/

/-- A candidate at one lane. -/
abbrev Tri : Type := EReal × BitVec 32 × EReal

/-- A candidate vector read at lane `i`. -/
def at_ (i : S8x128.Idx) (t : T Ideal) : Tri := (t.1 i, t.2.1 i, t.2.2 i)

/-- A comparator's outcome on two candidates at a lane. -/
def ordW (b : Bool) (x y : Tri) : BitVec 1 :=
  bif b then IntOp.ori (BitVec.ofBool (decide (y.1 < x.1))) (IntOp.andi (BitVec.ofBool (decide (x.1 = y.1))) (IntOp.cmpi .slt x.2.1 y.2.1))
  else BitVec.ofBool (decide (y.1 ≤ x.1))

/-- A select of whole candidates. -/
def selW (m : BitVec 1) (x y : Tri) : Tri := (Scalar.select m x.1 y.1, Scalar.select m x.2.1 y.2.1, Scalar.select m x.2.2 y.2.2)

/-- A comparator's first output at a lane. -/
theorem at_lo (i : S8x128.Idx) (b : Bool) (x y : T Ideal) : at_ i (lo b x y) = selW (ordW b (at_ i x) (at_ i y)) (at_ i x) (at_ i y) := by
  cases b <;> rfl

/-- A comparator's second output at a lane. -/
theorem at_hi (i : S8x128.Idx) (b : Bool) (x y : T Ideal) : at_ i (hi b x y) = selW (ordW b (at_ i x) (at_ i y)) (at_ i y) (at_ i x) := by
  cases b <;> rfl

/-- The candidate of a key, with its expert's score. -/
def tri (S : Fin 64 → EReal) (x : Key) : Tri := (OrderDual.ofDual (ofLex x).1, BitVec.ofNat 32 (ofLex x).2.val, S (ofLex x).2)

/-- Expert ids compare as words as they do as numbers. -/
theorem slt_ids (e f : Fin 64) : IntOp.cmpi .slt (BitVec.ofNat 32 e.val) (BitVec.ofNat 32 f.val) = BitVec.ofBool (decide (e < f)) := by
  revert e f; decide +kernel

/-- A comparator's outcome on the candidates of two keys. -/
theorem ordW_tri (S : Fin 64 → EReal) (b : Bool) (x y : Key) : ordW b (tri S x) (tri S y) = BitVec.ofBool (before b x y) := by
  cases b with
  | true => simp only [ordW, tri, before, cond_true, slt_ids, andi_ofBool, ori_ofBool]; congr
  | false => rfl

/-- A select by a truth value. -/
theorem selW_ofBool (p : Bool) (x y : Tri) : selW (BitVec.ofBool p) x y = if p = true then x else y := by
  cases p <;> rfl

/-- The earlier candidate is that of the earlier key. -/
theorem tri_lo (S : Fin 64 → EReal) (b : Bool) (x y : Key) : tri S (loK b x y) = selW (ordW b (tri S x) (tri S y)) (tri S x) (tri S y) := by
  rw [ordW_tri, selW_ofBool]; unfold loK; split_ifs <;> rfl

/-- The later candidate is that of the later key. -/
theorem tri_hi (S : Fin 64 → EReal) (b : Bool) (x y : Key) : tri S (hiK b x y) = selW (ordW b (tri S x) (tri S y)) (tri S y) (tri S x) := by
  rw [ordW_tri, selW_ofBool]; unfold hiK; split_ifs <;> rfl

/-- The networks over the kernel's candidates at a lane find the keys in order. -/
theorem at_top8 (i : S8x128.Idx) (S C : Fin 64 → EReal) (k : Fin 8 → Bool) (h4 : cnt k = 4) (xs : Fin 4 → Fin 8 → T Ideal)
    (hx : ∀ s j, at_ i (xs s j) = tri S (key C (cd k s j))) (n : Fin 8) :
    at_ i (top8 lo hi xs n) = tri S (routeKey C k n) := by
  have h1 := map_top8 (at_ i) lo hi (fun b x y => selW (ordW b x y) x y) (fun b x y => selW (ordW b x y) y x) (at_lo i) (at_hi i) xs
  have h2 := map_top8 (tri S) loK hiK (fun b x y => selW (ordW b x y) x y) (fun b x y => selW (ordW b x y) y x) (tri_lo S) (tri_hi S)
    fun s j => key C (cd k s j)
  have h3 : top8 loK hiK (fun s j => key C (cd k s j)) = routeKey C k := by
    refine top8_congr (fun x : Key => (ofLex x).2.val) loK hiK mins maxs (fun _ x y => min_choice x y) (fun _ x y => max_choice x y) loK_eq hiK_eq _
      (fun s => pk k s.val) (pk_spec k h4).2.1 fun s j => ?_
    exact cd_val k h4 s j
  rw [← h3]
  refine (congrFun h1 n).trans ((congrFun ?_ n).trans (congrFun h2 n).symm)
  simp only [hx]

/-- The kernel's candidates at a lane. -/
theorem cand_lane (i : S8x128.Idx) (G : Nat → FVec Ideal S8x128 .f32) (Gs : Fin 8 → EReal) (hG : ∀ g : Fin 8, G g.val i = Gs g)
    (cl sl : Fin 64 → FVec Ideal S8x128 .f32) (C S : Fin 64 → EReal) (hC : ∀ e, cl e i = C e) (hS : ∀ e, sl e i = S e) (s : Fin 4) (j : Fin 8) :
    at_ i (cand (count (rank G)) cl sl s j) = tri S (key C (cd (keep Gs) s j)) := by
  have hc := (pick_lane i G Gs hG s fun g => cl (Fin.ofNat 64 (8 * g + j.val))).trans (hC (cd (keep Gs) s j))
  have hs := (pick_lane i G Gs hG s fun g => sl (Fin.ofNat 64 (8 * g + j.val))).trans (hS (cd (keep Gs) s j))
  have hi : addi (pick (count (rank G)) s.val fun g => broadcast S8x128 (BitVec.ofNat 32 (8 * g))) (broadcast S8x128 (BitVec.ofNat 32 j.val)) i
      = BitVec.ofNat 32 (cd (keep Gs) s j).val := by
    show pick (count (rank G)) s.val (fun g => broadcast S8x128 (BitVec.ofNat 32 (8 * g))) i + BitVec.ofNat 32 j.val = _
    rw [pick_lane i G Gs hG, cd_val _ (cnt_keep Gs), BitVec.ofNat_add]
    rfl
  exact Prod.ext hc (Prod.ext hi hs)

/-- The kernel's routed experts at a lane. -/
theorem routed_lane (i : S8x128.Idx) (ld : Fin 64 → FVec Ideal S8x128 .f32) (xs : FVec Ideal S8x128 .f32) (ws bi : Fin 64 → EReal)
    (cl sl : Fin 64 → FVec Ideal S8x128 .f32) (l : Fin 64 → EReal) (hl : ∀ e, ld e i * xs i * ws e = l e)
    (hC : ∀ e, cl e i = chT l bi e) (hS : ∀ e, sl e i = scT l e) (n : Fin 8) :
    at_ i (routed (F := Ideal) ld xs ws bi cl sl n) = tri (scT l) (routeKey (chT l bi) (keep (gsT (chT l bi))) n) := by
  unfold routed
  refine at_top8 i _ _ _ (cnt_keep _) _ (fun s j => ?_) n
  refine cand_lane i _ _ (fun g => ?_) cl sl _ _ hC hS s j
  refine gs_lane i _ (chT l bi) (fun e => ?_) g
  exact ch_lane i _ l (fun e => hl _) bi e

end Cert.Router.Vec

end
-- ==== Proof.Router.Block.lean ====
/- One block of each result, lane by lane: the routed experts of the block's tokens and their scaled scores. -/
module

public import proofs.«01_k».proof.Proof.Router.Loads
public import proofs.«01_k».proof.Proof.Router.LaneRoute
public import Idealize.ShloMosaic.Lib.Pointwise

@[expose] public section

noncomputable section

namespace Cert.Router.Body

open Idealize.ShloMosaic Idealize.ShloMosaic.TcCoe Cert.KernelIdeal Cert.KernelIdeal.Gen Cert.KernelIdeal.Facts

/-- The dot product of expert `e` with a block's token, as the kernel computes it. -/
theorem pay4_lane (x2 : Vec Ideal S8x128x2816 .fp8e4m3) (x4 : Vec Ideal S64x2816 .fp8e4m3) (e : Fin 64) (b : Fin 8) (l : Fin 128)
    (h : 128 * b.val + l.val < 1024) :
    k0_pay4 x2 x4 (ix2 e ⟨128 * b.val + l.val, h⟩) = ∑ d : Fin 2816, x2 (ix3 b l d) * x4 (ix2 e d) := by
  pointwise [k0_pay4]
  exact Finset.sum_congr rfl fun d _ => mul_comm _ _

/-- The logits of a block's token. -/
def lgB (x0 : Vec Ideal S64 .f32) (x2 : Vec Ideal S8x128x2816 .fp8e4m3) (x3 : Vec Ideal S8x128 .f32) (x4 : Vec Ideal S64x2816 .fp8e4m3)
    (b : Fin 8) (l : Fin 128) : Fin 64 → EReal :=
  logitT (fun d => x2 (ix3 b l d)) (fun e d => x4 (ix2 e d)) (x3 (ix2 b l)) (fun e => x0 (ix1 e))

/-- The choices of a block's token. -/
def cB (x0 x1 : Vec Ideal S64 .f32) (x2 : Vec Ideal S8x128x2816 .fp8e4m3) (x3 : Vec Ideal S8x128 .f32) (x4 : Vec Ideal S64x2816 .fp8e4m3)
    (b : Fin 8) (l : Fin 128) : Fin 64 → EReal :=
  chT (lgB x0 x2 x3 x4 b l) fun e => x1 (ix1 e)

section
variable (c : Dev nD) (i : grid0.Coords) (arg1 : Memref sig .tc .smem S64 .f32) (harg1 : arg1.IsWhole) (arg2 : Memref sig .tc .smem S64 .f32) (harg2 : arg2.IsWhole) (arg3 : Memref sig .tc .vmem S8x128x2816 .fp8e4m3) (harg3 : arg3.IsWhole) (arg4 : Memref sig .tc .vmem S8x128 .f32) (harg4 : arg4.IsWhole) (arg5 : Memref sig .tc .vmem S64x2816 .fp8e4m3) (harg5 : arg5.IsWhole) (arg6 : Memref sig .tc .vmem S8x8x128 .i32) (harg6 : arg6.IsWhole) (arg7 : Memref sig .tc .vmem S8x8x128 .f32) (harg7 : arg7.IsWhole) (arg8 : Memref sig .tc .vmem S576x128 .f32) (harg8 : arg8.IsWhole) (arg9 : Memref sig .tc .vmem S64x8x128 .f32) (harg9 : arg9.IsWhole) (arg10 : Memref sig .tc .vmem S64x8x128 .f32) (harg10 : arg10.IsWhole)
  (x0 : Vec Ideal S64 .f32) (x1 : Vec Ideal S64 .f32) (x2 : Vec Ideal S8x128x2816 .fp8e4m3) (x3 : Vec Ideal S8x128 .f32) (x4 : Vec Ideal S64x2816 .fp8e4m3)

/-- The dot product loaded back, scaled, is the token's logit. -/
theorem ld_lane (b : Fin 8) (l : Fin 128) (e : Fin 64) :
    arg8.view.readCov (accL (k0_pay4 (F := Ideal)
        (View.readAt (Elt Ideal) arg3.view (Rect.unit (s := S8x128x2816) ![0, 0, 0] S8x128x2816.size inb_S8x128x2816_S8x128x2816_0_0_0).toLoadRect (harg3.unread x2))
        (View.readAt (Elt Ideal) arg5.view (Rect.unit (s := S64x2816) ![0, 0] S64x2816.size inb_S64x2816_S64x2816_0_0).toLoadRect (harg5.unread x4))))
        (rectA e).toLoadRect (ix2 b l)
      * View.readAt (Elt Ideal) arg4.view (Rect.unit (s := S8x128) ![0, 0] S8x128.size inb_S8x128_S8x128_0_0).toLoadRect (harg4.unread x3) (ix2 b l)
      * word arg1 harg1 x0 e = lgB x0 x2 x3 x4 b l e := by
  rw [load_acc, load_whole arg3 harg3 x2 zero3, load_whole arg4 harg4 x3 zero2, load_whole arg5 harg5 x4 zero2, word_eq, pay4_lane]
  rfl

/-- The body's logits at a lane. -/
theorem lg_lane (b : Fin 8) (l : Fin 128) (e : Nat) : lg arg1 harg1 arg3 harg3 arg4 harg4 arg5 harg5 arg8 x0 x2 x3 x4 e (ix2 b l) = lgB x0 x2 x3 x4 b l (Fin.ofNat 64 e) :=
  ld_lane arg1 harg1 arg3 harg3 arg4 harg4 arg5 harg5 arg8 x0 x2 x3 x4 b l (Fin.ofNat 64 e)

/-- The body's scores at a lane. -/
theorem scs_lane (b : Fin 8) (l : Fin 128) (e : Nat) : scs arg1 harg1 arg3 harg3 arg4 harg4 arg5 harg5 arg8 x0 x2 x3 x4 e (ix2 b l) = scT (lgB x0 x2 x3 x4 b l) (Fin.ofNat 64 e) :=
  Vec.sc_lane (ix2 b l) _ _ (lg_lane arg1 harg1 arg3 harg3 arg4 harg4 arg5 harg5 arg8 x0 x2 x3 x4 b l) e

/-- The body's choices at a lane. -/
theorem chs_lane (b : Fin 8) (l : Fin 128) (e : Nat) : chs arg1 harg1 arg2 harg2 arg3 harg3 arg4 harg4 arg5 harg5 arg8 x0 x1 x2 x3 x4 e (ix2 b l) = cB x0 x1 x2 x3 x4 b l (Fin.ofNat 64 e) := by
  refine (Vec.ch_lane (ix2 b l) _ _ (lg_lane arg1 harg1 arg3 harg3 arg4 harg4 arg5 harg5 arg8 x0 x2 x3 x4 b l) (word arg2 harg2 x1) e).trans ?_
  rw [funext (word_eq arg2 harg2 x1)]
  rfl

/-- The routed experts of a block's token. -/
theorem rts_lane (b : Fin 8) (l : Fin 128) (k : Fin 8) : Vec.at_ (ix2 b l) (rts c i arg1 harg1 arg2 harg2 arg3 harg3 arg4 harg4 arg5 harg5 arg6 harg6 arg7 harg7 arg8 harg8 arg9 harg9 arg10 harg10 x0 x1 x2 x3 x4 k)
    = Vec.tri (scT (lgB x0 x2 x3 x4 b l)) (routeKey (cB x0 x1 x2 x3 x4 b l) (keep (gsT (cB x0 x1 x2 x3 x4 b l))) k) := by
  have hw : (fun e => x1 (ix1 e)) = word arg2 harg2 x1 := funext fun e => (word_eq arg2 harg2 x1 e).symm
  have hn : ∀ e : Fin 64, Fin.ofNat 64 e.val = e := fun e => Fin.ext (Nat.mod_eq_of_lt e.isLt)
  unfold rts cB
  rw [run_choice, run_score, hw]
  refine Vec.routed_lane (ix2 b l) _ _ _ _ _ _ _ (fun e => ?_) (fun e => ?_) (fun e => ?_) k
  · exact ld_lane arg1 harg1 arg3 harg3 arg4 harg4 arg5 harg5 arg8 x0 x2 x3 x4 b l e
  · rw [block_blocksL, chs_lane, hn]
    unfold cB
    rw [hw]
  · rw [block_blocksL, scs_lane, hn]

/-- The first result's block: the routed experts. -/
theorem out5_lane (b k : Fin 8) (l : Fin 128) : out0_A_5 c i arg1 harg1 arg2 harg2 arg3 harg3 arg4 harg4 arg5 harg5 arg6 harg6 arg7 harg7 arg8 harg8 arg9 harg9 arg10 harg10 x0 x1 x2 x3 x4 (ix3 b k l)
    = BitVec.ofNat 32 (selT (cB x0 x1 x2 x3 x4 b l) k).val := by
  unfold out0_A_5
  rw [View.read_writes_junk_eq_canon, run_ids, canon_rowsL]
  exact congrArg (fun t : Vec.Tri => t.2.1) (rts_lane c i arg1 harg1 arg2 harg2 arg3 harg3 arg4 harg4 arg5 harg5 arg6 harg6 arg7 harg7 arg8 harg8 arg9 harg9 arg10 harg10 x0 x1 x2 x3 x4 b l k)

/-- The second result's block: their scores, scaled. -/
theorem out6_lane (b k : Fin 8) (l : Fin 128) : out0_A_6 c i arg1 harg1 arg2 harg2 arg3 harg3 arg4 harg4 arg5 harg5 arg6 harg6 arg7 harg7 arg8 harg8 arg9 harg9 arg10 harg10 x0 x1 x2 x3 x4 (ix3 b k l)
    = scT (lgB x0 x2 x3 x4 b l) (selT (cB x0 x1 x2 x3 x4 b l) k) * Ideal.ofBits .f32 0x40200000#32 := by
  unfold out0_A_6
  rw [View.read_writes_junk_eq_canon, run_wts, canon_rowsL]
  exact congrArg (fun t : Vec.Tri => t.2.2 * Ideal.ofBits .f32 0x40200000#32) (rts_lane c i arg1 harg1 arg2 harg2 arg3 harg3 arg4 harg4 arg5 harg5 arg6 harg6 arg7 harg7 arg8 harg8 arg9 harg9 arg10 harg10 x0 x1 x2 x3 x4 b l k)
end

end Cert.Router.Body

end
-- ==== Proof.Router.Ref.lean ====
/- The reference's computation, with its eight selections written as one step that repeats. -/
module

public import proofs.«01_k».proof.Proof.Gen.ReferenceIdeal.Value

@[expose] public section

noncomputable section

namespace Cert.Router.Ref

open Idealize.ShloMosaic Idealize.ShloMosaic.Tactic Cert.ReferenceIdeal Cert.ReferenceIdeal.Gen Cert.ReferenceIdeal.Facts

variable {F : FTy → Type} [FloatOps F]

/-- The first index of the largest value of each row, as a word. -/
def idx (m : FVec F S8x2048x64 .f32) : IVec S8x2048x1 32 :=
  shapeCast S8x2048x1 (multiReductionI .minsi [2] S8x2048
    (select (cmpf .oeq m (broadcastTo S8x2048x64 (shapeCast S8x2048x1
        (multiReduction .maximumf [2] S8x2048 m 0xFF800000#32 reduces_S8x2048x64_S8x2048 (.inl rfl) rfl)
        shapeCasts_S8x2048_S8x2048x1) broadcasts_S8x2048x1_S8x2048x64))
      (broadcastTo S8x2048x64 (shapeCast S1x1x64 k0_pay11 shapeCasts_S64_S1x1x64) broadcasts_S1x1x64_S8x2048x64)
      (broadcast S8x2048x64 64#32)) 2147483647#32 reduces_S8x2048x64_S8x2048 rfl) shapeCasts_S8x2048_S8x2048x1

/-- Whether an expert is the one selected. -/
def hot (m : FVec F S8x2048x64 .f32) : IVec S8x2048x64 1 :=
  cmpi .eq (broadcastTo S8x2048x64 (shapeCast S1x1x64 k0_pay11 shapeCasts_S64_S1x1x64) broadcasts_S1x1x64_S8x2048x64)
    (broadcastTo S8x2048x64 (idx m) broadcasts_S8x2048x1_S8x2048x64)

/-- The choices without the one selected. -/
def next (m : FVec F S8x2048x64 .f32) : FVec F S8x2048x64 .f32 :=
  select (hot m) (broadcast S8x2048x64 (Scalar.ofBits .f32 0xFF800000#32)) m

/-- The score of the one selected. -/
def wt (s m : FVec F S8x2048x64 .f32) : FVec F S8x2048 .f32 :=
  multiReduction .add [2] S8x2048 (select (hot m) s (broadcast S8x2048x64 (Scalar.ofBits .f32 0x00000000#32))) 0x00000000#32
    reduces_S8x2048x64_S8x2048 (.inl rfl) rfl

/-- The choices after `n` selections. -/
def after (m : FVec F S8x2048x64 .f32) : Nat → FVec F S8x2048x64 .f32
  | 0 => m
  | n + 1 => next (after m n)

/-- The selected expert number `n`, as a column. -/
def idCol (m : FVec F S8x2048x64 .f32) (n : Nat) : IVec S8x2048x1 32 :=
  shapeCast S8x2048x1 (shapeCast S8x2048 (idx (after m n)) shapeCasts_S8x2048x1_S8x2048) shapeCasts_S8x2048_S8x2048x1

/-- Its score, as a column. -/
def wtCol (s m : FVec F S8x2048x64 .f32) (n : Nat) : FVec F S8x2048x1 .f32 :=
  shapeCast S8x2048x1 (wt s (after m n)) shapeCasts_S8x2048_S8x2048x1

/-- The selected experts. -/
def ids (m : FVec F S8x2048x64 .f32) : IVec S8x2048x8 32 :=
  concatenate S8x2048x8 2 [⟨S8x2048x1, idCol m 0⟩, ⟨S8x2048x1, idCol m 1⟩, ⟨S8x2048x1, idCol m 2⟩, ⟨S8x2048x1, idCol m 3⟩,
    ⟨S8x2048x1, idCol m 4⟩, ⟨S8x2048x1, idCol m 5⟩, ⟨S8x2048x1, idCol m 6⟩, ⟨S8x2048x1, idCol m 7⟩]
    concatenates_S8x2048x1_S8x2048x1_S8x2048x1_S8x2048x1_S8x2048x1_S8x2048x1_S8x2048x1_S8x2048x1_S8x2048x8_d2

/-- Their scores, scaled. -/
def wts (s m : FVec F S8x2048x64 .f32) : FVec F S8x2048x8 .f32 :=
  mulf (concatenate S8x2048x8 2 [⟨S8x2048x1, wtCol s m 0⟩, ⟨S8x2048x1, wtCol s m 1⟩, ⟨S8x2048x1, wtCol s m 2⟩, ⟨S8x2048x1, wtCol s m 3⟩,
    ⟨S8x2048x1, wtCol s m 4⟩, ⟨S8x2048x1, wtCol s m 5⟩, ⟨S8x2048x1, wtCol s m 6⟩, ⟨S8x2048x1, wtCol s m 7⟩]
    concatenates_S8x2048x1_S8x2048x1_S8x2048x1_S8x2048x1_S8x2048x1_S8x2048x1_S8x2048x1_S8x2048x1_S8x2048x8_d2)
    (broadcast S8x2048x8 (Scalar.ofBits .f32 0x40200000#32))

variable (a0 : Vec F S8x2048x2816 .fp8e4m3) (a1 : Vec F S8x2048 .f32) (a2 : Vec F S2816x64 .fp8e4m3) (a3 : Vec F S64 .f32) (a4 : Vec F S64 .f32)

/-- The choices of the experts in kept groups, and minus infinity elsewhere. -/
def masked : FVec F S8x2048x64 .f32 :=
  k0_pay10 (k0_pay3 a0 a1 a2 a3 a4) (k0_pay7 a0 a1 a2 a3 a4) (k0_pay8 a0 a1 a2 a3 a4) k0_pay9

/-- The first result, of the arguments as loaded. -/
theorem G5_ld : Value.G5 a0 a1 a2 a3 a4
    = ids (masked (View.ld a0 r0_0) (View.ld a1 r0_1) (View.ld a2 r0_2) (View.ld a3 r0_3) (View.ld a4 r0_3)) := by sl_kernel_rfl

/-- The second result, of the arguments as loaded. -/
theorem G6_ld : Value.G6 a0 a1 a2 a3 a4
    = wts (k0_pay2 (View.ld a0 r0_0) (View.ld a1 r0_1) (View.ld a2 r0_2) (View.ld a3 r0_3))
      (masked (View.ld a0 r0_0) (View.ld a1 r0_1) (View.ld a2 r0_2) (View.ld a3 r0_3) (View.ld a4 r0_3)) := by sl_kernel_rfl

/-- Offsets of zero on one axis. -/
theorem zero1 : (![0] : Fin 1 → Nat) = fun _ => 0 := funext fun a => by fin_cases a; rfl
/-- Offsets of zero on two axes. -/
theorem zero2 : (![0, 0] : Fin 2 → Nat) = fun _ => 0 := funext fun a => by fin_cases a <;> rfl
/-- Offsets of zero on three axes. -/
theorem zero3 : (![0, 0, 0] : Fin 3 → Nat) = fun _ => 0 := funext fun a => by fin_cases a <;> rfl

/-- The first result. -/
theorem G5_eq : Value.G5 a0 a1 a2 a3 a4 = ids (masked a0 a1 a2 a3 a4) := by
  rw [G5_ld, View.ld_unit_zero zero3, View.ld_unit_zero zero2, View.ld_unit_zero zero2, View.ld_unit_zero zero1, View.ld_unit_zero zero1]

/-- The second result. -/
theorem G6_eq : Value.G6 a0 a1 a2 a3 a4 = wts (k0_pay2 a0 a1 a2 a3) (masked a0 a1 a2 a3 a4) := by
  rw [G6_ld, View.ld_unit_zero zero3, View.ld_unit_zero zero2, View.ld_unit_zero zero2, View.ld_unit_zero zero1, View.ld_unit_zero zero1]

end Cert.Router.Ref

end
-- ==== Proof.Router.RefStep.lean ====
/- The reference's repeated selection, read at one token: that of `Token.lean` of the token's row of values. -/
module

public import proofs.«01_k».proof.Proof.Router.Ref
public import proofs.«01_k».proof.Proof.Router.Token
public import Idealize.ShloMosaic.Lib.Pointwise

@[expose] public section

noncomputable section

namespace Cert.Router.Ref

open Idealize.ShloMosaic Idealize.ShloMosaic.Tactic Cert.ReferenceIdeal Cert.ReferenceIdeal.Gen Cert.ReferenceIdeal.Facts

section
variable (m s : FVec Ideal S8x2048x64 .f32) (b : Fin 8) (t : Fin 2048) (e : Fin 64)

/-- A token's row of values, one per expert. -/
def row (b : Fin 8) (t : Fin 2048) : Fin 64 → EReal := fun e => m (ix3 b t e)

/-- The reference's expert of one round: the first of the greatest. -/
theorem idx_lane : idx m (ix3 b t 0) = BitVec.ofNat 32 (first (row m b t)).val := by
  rw [← firstW_eq]
  pointwise [idx, k0_pay11]
  rw [ofBits_bot]
  rfl

/-- The reference's mark of that expert. -/
theorem hot_lane : hot m (ix3 b t e) = BitVec.ofBool (decide (e = first (row m b t))) := by
  pointwise [hot, k0_pay11]
  rw [idx_lane, ← ofNat_inj]
  rfl

/-- After a round, that expert's entry is minus infinity. -/
theorem row_next : row (next m) b t = fun f => if f = first (row m b t) then ⊥ else row m b t f := by
  funext f
  unfold row
  pointwise [next]
  rw [hot_lane, select_ofBool, ofBits_bot]
  simp only [decide_eq_true_eq]
  rfl

/-- The entries after `n` rounds. -/
theorem row_after (n : Nat) : row (after m n) b t = aft (row m b t) n := by
  induction n with
  | zero => rfl
  | succ n ih => simp only [after, aft, row_next, ih]

/-- The score that a round reads. -/
theorem wt_lane : wt s m (ix2 b t) = s (ix3 b t (first (row m b t))) := by
  pointwise [wt]
  rw [Finset.sum_eq_single (first (row m b t))]
  · rw [hot_lane, select_ofBool]; simp
  · intro f _ hf; rw [hot_lane, select_ofBool]; simp [hf]
  · intro h; exact absurd (Finset.mem_univ _) h

/-- The first result at a token. -/
theorem ids_lane (k : Fin 8) : ids m (ix3 b t k) = BitVec.ofNat 32 (first (aft (row m b t) k.val)).val := by
  pointwise [ids, idCol]
  fin_vals k with hk
  all_goals simp only [hk, Nat.reduceSub, Nat.reduceLT, ↓reduceDIte]
  all_goals exact (idx_lane _ b t).trans (by rw [row_after])

/-- The second result at a token. -/
theorem wts_lane (k : Fin 8) : wts s m (ix3 b t k)
    = s (ix3 b t (first (aft (row m b t) k.val))) * Ideal.ofBits .f32 0x40200000#32 := by
  pointwise [wts, wtCol]
  fin_vals k with hk
  all_goals simp only [hk, Nat.reduceSub, Nat.reduceLT, ↓reduceDIte]
  all_goals rw [wt_lane, row_after]

end

end Cert.Router.Ref

end
-- ==== Proof.Router.RefScore.lean ====
/- The reference's scores, read at one token: those of `Token.lean` of the token's logits. -/
module

public import proofs.«01_k».proof.Proof.Router.RefStep

@[expose] public section

noncomputable section

namespace Cert.Router.Ref

open Idealize.ShloMosaic Idealize.ShloMosaic.Tactic Cert.ReferenceIdeal Cert.ReferenceIdeal.Gen Cert.ReferenceIdeal.Facts

variable (a0 : Vec Ideal S8x2048x2816 .fp8e4m3) (a1 : Vec Ideal S8x2048 .f32) (a2 : Vec Ideal S2816x64 .fp8e4m3) (a3 : Vec Ideal S64 .f32) (a4 : Vec Ideal S64 .f32)
variable (b : Fin 8) (t : Fin 2048) (e : Fin 64)

/-- The logits of a token. -/
def lgT : Fin 64 → EReal :=
  logitT (fun d => a0 (ix3 b t d)) (fun e d => a2 (ix2 d e)) (a1 (ix2 b t)) (fun e => a3 (ix1 e))

/-- The choices of a token. -/
def cT : Fin 64 → EReal := chT (lgT a0 a1 a2 a3 b t) fun e => a4 (ix1 e)

/-- The reference's scores. -/
theorem pay2_lane : k0_pay2 a0 a1 a2 a3 (ix3 b t e) = scT (lgT a0 a1 a2 a3 b t) e := by
  pointwise [k0_pay2]
  rw [ofBits_bot]
  unfold scT exT lgT logitT mx
  rfl

end Cert.Router.Ref

end
-- ==== Proof.Router.Array.lean ====
/- The kernel's two arrays after its run: at every token, the routed experts and their scaled scores. -/
module

public import proofs.«01_k».proof.Proof.Router.Inputs
public import proofs.«01_k».proof.Proof.Router.Block
public import proofs.«01_k».proof.Proof.Router.RefScore

@[expose] public section

noncomputable section

namespace Cert.Router.Arr

open Idealize.ShloMosaic Idealize.ShloMosaic.TcCoe Idealize.ShloMosaic.Pipeline Cert.KernelIdeal Cert.KernelIdeal.Gen Cert.KernelIdeal.Facts

variable (m : (ℓ : Loc nD τ sig) → Buf (Elt Ideal) ℓ) (c : Dev nD) (t : Fin cfg0.N)

/-- The logits of a token, of the kernel's arguments. -/
def lgA (b : Fin 8) (u : Fin 2048) : Fin 64 → EReal :=
  Ref.lgT (m ((c.tc : Thread nD τ).loc main_arg0)) (m ((c.tc : Thread nD τ).loc main_arg1)) (m ((c.tc : Thread nD τ).loc main_arg2))
    (m ((c.tc : Thread nD τ).loc main_arg3)) b u

/-- The choices of a token, of the kernel's arguments. -/
def cA (b : Fin 8) (u : Fin 2048) : Fin 64 → EReal :=
  Ref.cT (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) b u

/-- A block's logits are the arguments' logits of its tokens. -/
theorem lgB_eq (b : Fin 8) (l : Fin 128) :
    Body.lgB (iblk m c 0 t) (iblk m c 2 t) (iblk m c 3 t) (iblk m c 4 t) b l = lgA m c b (tok t l) := by
  unfold Body.lgB lgA Ref.lgT
  have h0 : (fun d => iblk m c 2 t (ix3 b l d)) = fun d => m ((c.tc : Thread nD τ).loc main_arg0) (ix3 b (tok t l) d) := funext (blk2 m c t b l)
  have h1 : (fun e d => iblk m c 4 t (ix2 e d)) = fun e d => m ((c.tc : Thread nD τ).loc main_arg2) (ix2 d e) := funext fun e => funext (blk4 m c t e)
  have h2 : (fun e => iblk m c 0 t (ix1 e)) = fun e => m ((c.tc : Thread nD τ).loc main_arg3) (ix1 e) := funext (blk0 m c t)
  exact (congrArg (fun x => logitT x _ _ _) h0).trans ((congrArg (fun w => logitT _ w _ _) h1).trans
    ((congrArg (fun s => logitT _ _ s _) (blk3 m c t b l)).trans (congrArg (fun w => logitT _ _ _ w) h2)))

/-- A block's choices are the arguments' choices of its tokens. -/
theorem cB_eq (b : Fin 8) (l : Fin 128) :
    Body.cB (iblk m c 0 t) (iblk m c 1 t) (iblk m c 2 t) (iblk m c 3 t) (iblk m c 4 t) b l = cA m c b (tok t l) := by
  have h2 : (fun e => iblk m c 1 t (ix1 e)) = fun e => m ((c.tc : Thread nD τ).loc main_arg4) (ix1 e) := funext (blk1 m c t)
  exact (congrArg (fun x => chT x _) (lgB_eq m c t b l)).trans (congrArg (fun x => chT _ x) h2)

/-- The experts routed to, by result row and token. -/
def ids : Vec Ideal S8x8x2048 .i32 := fun y => BitVec.ofNat 32 (selT (cA m c (y 0) (y 2)) (y 1)).val

/-- Their scores, scaled. -/
def wts : Vec Ideal S8x8x2048 .f32 := fun y =>
  scT (lgA m c (y 0) (y 2)) (selT (cA m c (y 0) (y 2)) (y 1)) * Ideal.ofBits .f32 0x40200000#32

/-- Where a block of experts sits in their array. -/
theorem place5 (b k : Fin 8) (l : Fin 128) : ((cfg0.win 5).blk t).view.emb (ix3 b k l) = ix3 b k (tok t l) := by
  blk_ext [idx t, tok]

/-- Where a block of weights sits in their array. -/
theorem place6 (b k : Fin 8) (l : Fin 128) : ((cfg0.win 6).blk t).view.emb (ix3 b k l) = ix3 b k (tok t l) := by
  blk_ext [idx t, tok]

/-- The array of experts after the run. -/
theorem array5 : (dats m 0 c).arrAt 5 cfg0.N = ids m c := by
  refine (dats m 0 c).arrAt_eq_of_covers 5 _ (by decide +kernel) fun t hf y => ?_
  obtain ⟨b, k, l, rfl⟩ : ∃ (b k : Fin 8) (l : Fin 128), y = ix3 b k l :=
    ⟨y 0, y 1, y 2, by funext a; fin_cases a <;> rfl⟩
  rw [place5, after0_5]
  blk_simp
  unfold outsAt0
  dsimp only
  rw [Body.out5_lane, cB_eq]
  rfl

/-- The array of weights after the run. -/
theorem array6 : (dats m 0 c).arrAt 6 cfg0.N = wts m c := by
  refine (dats m 0 c).arrAt_eq_of_covers 6 _ (by decide +kernel) fun t hf y => ?_
  obtain ⟨b, k, l, rfl⟩ : ∃ (b k : Fin 8) (l : Fin 128), y = ix3 b k l :=
    ⟨y 0, y 1, y 2, by funext a; fin_cases a <;> rfl⟩
  rw [place6, after0_6]
  blk_simp
  unfold outsAt0
  dsimp only
  rw [Body.out6_lane, cB_eq, lgB_eq]
  rfl

end Cert.Router.Arr

end
-- ==== Proof.Router.KernelRun.lean ====
/- The kernel's run: its two results, the host's transposes of the two arrays, and its arguments unchanged. -/
module

public import proofs.«01_k».proof.Proof.Router.Array

@[expose] public section

noncomputable section

namespace Cert.Router.Arr

open Idealize.ShloMosaic Idealize.ShloMosaic.TcCoe Idealize.SL.Sem Cert.KernelIdeal Cert.KernelIdeal.Gen Cert.KernelIdeal.Facts

variable (m : (ℓ : Loc nD τ sig) → Buf (Elt Ideal) ℓ) (ρ : Dev nD → PrngReg)

/-- The arrays' references differ. -/
theorem arr_inj : Function.Injective (Pipeline.arrRef (sig := sig) spec0) := by
  intro w w' h
  revert w w'
  decide

/-- The memory after the region, at the two arrays. -/
theorem mid5 (c : Dev nD) : Pipeline.withArrays (cfgs 0).spec c (V0 m c) (fun w => (dats m 0 c).arrAt w (cfgs 0).N) (Proc.devRef .tc main_v1_0) = ids m c :=
  (Pipeline.withArrays_arr (cfgs 0).spec arr_inj c (V0 m c) (fun w => (dats m 0 c).arrAt w (cfgs 0).N) 5).trans (array5 m c)

/-- The same of the second array. -/
theorem mid6 (c : Dev nD) : Pipeline.withArrays (cfgs 0).spec c (V0 m c) (fun w => (dats m 0 c).arrAt w (cfgs 0).N) (Proc.devRef .tc main_v1_1) = wts m c :=
  (Pipeline.withArrays_arr (cfgs 0).spec arr_inj c (V0 m c) (fun w => (dats m 0 c).arrAt w (cfgs 0).N) 6).trans (array6 m c)

/-- The first result. -/
theorem tail2 (c : Dev nD) : Pipeline.afterTail₀ cfgs (dats m) 0 (V0 m) [hostOps1] c main_v2
    = transpose S8x2048x8 [0, 2, 1] (ids m c) transposes_S8x8x2048_S8x2048x8_0_2_1 := by
  rw [← mid5]
  show StableHlo.after [_, _] _ (Proc.tc.devRef main_v2) = _
  rw [StableHlo.after_cons, StableHlo.after_cons, StableHlo.after_nil]
  exact (StableHlo.unary_result_ne _ _ _ _ _ _ (by decide)).trans (StableHlo.unary_result _ _ _ _ _ _)

/-- The second result. -/
theorem tail3 (c : Dev nD) : Pipeline.afterTail₀ cfgs (dats m) 0 (V0 m) [hostOps1] c main_v3
    = transpose S8x2048x8 [0, 2, 1] (wts m c) transposes_S8x8x2048_S8x2048x8_0_2_1 := by
  rw [← mid6]
  show StableHlo.after [_, _] _ (Proc.tc.devRef main_v3) = _
  rw [StableHlo.after_cons, StableHlo.after_cons, StableHlo.after_nil]
  refine (StableHlo.unary_result _ _ _ _ _ _).trans ?_
  exact congrArg (fun x => transpose S8x2048x8 [0, 2, 1] x transposes_S8x8x2048_S8x2048x8_0_2_1) (StableHlo.unary_result_ne _ _ _ _ _ _ (by decide))

/-- Every run of the kernel ends with the two results so and its arguments as launched. -/
theorem run : θ_run defs (onTc (τ := τ) (main (F := Ideal))) ⟨m, fun _ => 0, ρ⟩ fun r => ∀ c : Dev nD,
      r.2.mem ((c.tc : Thread nD τ).loc main_v2) = transpose S8x2048x8 [0, 2, 1] (ids m c) transposes_S8x8x2048_S8x2048x8_0_2_1
      ∧ r.2.mem ((c.tc : Thread nD τ).loc main_v3) = transpose S8x2048x8 [0, 2, 1] (wts m c) transposes_S8x8x2048_S8x2048x8_0_2_1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨
      ((h c).2 main_v2 (Pipeline.mem_restRefs_of main_v2 (by decide) (by decide))).trans (tail2 m c),
      ((h c).2 main_v3 (Pipeline.mem_restRefs_of main_v3 (by decide) (by decide))).trans (tail3 m c),
      ((h c).1 2).trans (((dats m 0 c).arrAt_in 2 rfl _).trans ((A_eq m c 2).trans (V_main_arg0 m c))),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).1 0).trans (((dats m 0 c).arrAt_in 0 rfl _).trans ((A_eq m c 0).trans (V_main_arg3 m c))),
      ((h c).1 1).trans (((dats m 0 c).arrAt_in 1 rfl _).trans ((A_eq m c 1).trans (V_main_arg4 m c)))⟩)
    (run_main m ρ)

end Cert.Router.Arr

end
-- ==== Proof.Router.RefLane.lean ====
/- The reference's results, read at one token: the mathematics of `Token.lean` of that token's row. -/
module

public import proofs.«01_k».proof.Proof.Router.RefScore

@[expose] public section

noncomputable section

namespace Cert.Router.Ref

open Idealize.ShloMosaic Idealize.ShloMosaic.Tactic Cert.ReferenceIdeal Cert.ReferenceIdeal.Gen Cert.ReferenceIdeal.Facts

variable (a0 : Vec Ideal S8x2048x2816 .fp8e4m3) (a1 : Vec Ideal S8x2048 .f32) (a2 : Vec Ideal S2816x64 .fp8e4m3) (a3 : Vec Ideal S64 .f32) (a4 : Vec Ideal S64 .f32)
variable (b : Fin 8) (t : Fin 2048) (e : Fin 64)

/-- A sum of eight truth values as words, checked on every outcome. -/
theorem fold_ofBool : ∀ a b c d e f g h : Bool,
    Finset.fold IntOp.addi 0#32 (fun x : Fin 8 => BitVec.setWidth 32 (BitVec.ofBool (![a, b, c, d, e, f, g, h] x))) Finset.univ
      = BitVec.ofNat 32 (a.toNat + b.toNat + c.toNat + d.toNat + e.toNat + f.toNat + g.toNat + h.toNat) := by
  decide +kernel

/-- A sum of eight truth values as words is their number. -/
theorem fold_cnt (v : Fin 8 → Bool) :
    Finset.fold IntOp.addi 0#32 (fun x : Fin 8 => BitVec.setWidth 32 (BitVec.ofBool (v x))) Finset.univ = BitVec.ofNat 32 (cnt v) := by
  have hv : v = ![v 0, v 1, v 2, v 3, v 4, v 5, v 6, v 7] := by funext i; fin_cases i <;> rfl
  have h := fold_ofBool (v 0) (v 1) (v 2) (v 3) (v 4) (v 5) (v 6) (v 7)
  rw [← hv] at h
  rw [h, cnt, Fin.sum_univ_eight]

/-- The reference's choices, by group. -/
theorem pay3_lane (g j : Fin 8) :
    k0_pay3 a0 a1 a2 a3 a4 (ix4 b t g j) = cT a0 a1 a2 a3 a4 b t (Fin.ofNat 64 (8 * g.val + j.val)) := by
  have hx : (⟨g.val * 8 + j.val, by omega⟩ : Fin 64) = Fin.ofNat 64 (8 * g.val + j.val) :=
    Fin.ext (by simp only [Fin.ofNat]; omega)
  pointwise [k0_pay3]
  rw [hx, pay2_lane]
  rfl

/-- The reference's group scores. -/
theorem pay4_lane (g : Fin 8) : k0_pay4 a0 a1 a2 a3 a4 (ix3 b t g) = gsT (cT a0 a1 a2 a3 a4 b t) g := by
  pointwise [k0_pay4]
  simp only [pay3_lane, ofBits_bot]
  rfl

/-- The reference's comparison of two group scores for greater. -/
theorem pay7_lane (g j : Fin 8) : k0_pay7 a0 a1 a2 a3 a4 (ix4 b t g j)
    = BitVec.ofBool (decide (gsT (cT a0 a1 a2 a3 a4 b t) g < gsT (cT a0 a1 a2 a3 a4 b t) j)) := by
  pointwise [k0_pay7, k0_pay5, k0_pay6]
  simp only [pay4_lane]

/-- The reference's comparison of two group scores for equal. -/
theorem pay8_lane (g j : Fin 8) : k0_pay8 a0 a1 a2 a3 a4 (ix4 b t g j)
    = BitVec.ofBool (decide (gsT (cT a0 a1 a2 a3 a4 b t) j = gsT (cT a0 a1 a2 a3 a4 b t) g)) := by
  pointwise [k0_pay8, k0_pay5, k0_pay6]
  simp only [pay4_lane]

/-- The reference's comparison of two group numbers. -/
theorem pay9_lane (g j : Fin 8) : k0_pay9 (ix4 b t g j) = BitVec.ofBool (decide (j.val < g.val)) := by
  pointwise [k0_pay9]
  exact slt_small j g

/-- The reference's choices, those of the groups not kept at minus infinity. -/
theorem masked_lane : masked a0 a1 a2 a3 a4 (ix3 b t e) = mkT (cT a0 a1 a2 a3 a4 b t) e := by
  have he : Fin.ofNat 64 (8 * (grp e).val + e.val % 8) = e := Fin.ext (by simp only [Fin.ofNat, grp]; omega)
  have h3 := pay3_lane a0 a1 a2 a3 a4 b t (grp e) ⟨e.val % 8, by omega⟩
  have h7 := pay7_lane a0 a1 a2 a3 a4 b t (grp e)
  have h8 := pay8_lane a0 a1 a2 a3 a4 b t (grp e)
  have h9 := pay9_lane b t (grp e)
  dsimp only at h3
  rw [he] at h3
  unfold grp at h3 h7 h8 h9
  pointwise [masked, k0_pay10]
  simp only [h3, h7, h8, h9, ori_ofBool, andi_ofBool]
  rw [ofBits_bot]
  have := fold_cnt fun x => ahead (gsT (cT a0 a1 a2 a3 a4 b t)) x ⟨e.val / 8, by omega⟩
  unfold ahead at this
  dsimp only at this ⊢
  rw [this, slt_four _ (cnt_le _), select_ofBool]
  rfl

/-- With biases above minus infinity, the reference's first result at a token: the experts selected. -/
theorem G5_lane (h : ∀ e, a4 (ix1 e) ≠ ⊥) (k : Fin 8) :
    Value.G5 a0 a1 a2 a3 a4 (ix3 b t k) = BitVec.ofNat 32 (selT (cT a0 a1 a2 a3 a4 b t) k).val := by
  rw [G5_eq, ids_lane, show row (masked a0 a1 a2 a3 a4) b t = mkT (cT a0 a1 a2 a3 a4 b t) from funext fun e => masked_lane ..,
    first_eq (cT a0 a1 a2 a3 a4 b t) fun e => chT_ne_bot _ _ e (h e)]

/-- With biases above minus infinity, the reference's second result at a token: their scores, scaled. -/
theorem G6_lane (h : ∀ e, a4 (ix1 e) ≠ ⊥) (k : Fin 8) :
    Value.G6 a0 a1 a2 a3 a4 (ix3 b t k)
      = scT (lgT a0 a1 a2 a3 b t) (selT (cT a0 a1 a2 a3 a4 b t) k) * Ideal.ofBits .f32 0x40200000#32 := by
  rw [G6_eq, wts_lane, show row (masked a0 a1 a2 a3 a4) b t = mkT (cT a0 a1 a2 a3 a4 b t) from funext fun e => masked_lane ..,
    first_eq (cT a0 a1 a2 a3 a4 b t) fun e => chT_ne_bot _ _ e (h e), pay2_lane]

end Cert.Router.Ref

end
-- ==== Proof.Router.Same.lean ====
/- The kernel's results are the reference's. -/
module

public import proofs.«01_k».proof.Defs
public import proofs.«01_k».proof.Proof.Router.KernelRun
public import proofs.«01_k».proof.Proof.Router.RefLane

@[expose] public section

noncomputable section

namespace Cert.Router.Arr

open Idealize.ShloMosaic Idealize.ShloMosaic.TcCoe Idealize.SL.Sem Cert.KernelIdeal Cert.KernelIdeal.Gen Cert.KernelIdeal.Facts

variable (m : (ℓ : Loc nD τ sig) → Buf (Elt Ideal) ℓ) (c : Dev nD)

/-- The host's transpose of a result, read at a token. -/
theorem turn {α : Type} (v : S8x8x2048.Idx → α) (b : Fin 8) (u : Fin 2048) (k : Fin 8) :
    transpose S8x2048x8 [0, 2, 1] v transposes_S8x8x2048_S8x2048x8_0_2_1 (ix3 b u k) = v (ix3 b k u) := by
  pointwise []

section
variable (h : ∀ e : Fin 64, m ((c.tc : Thread nD τ).loc main_arg4) (ix1 e) ≠ (⊥ : EReal))
include h

/-- The first result is the reference's. -/
theorem same_ids : Cert.ReferenceIdeal.Value.G5 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    = transpose S8x2048x8 [0, 2, 1] (ids m c) transposes_S8x8x2048_S8x2048x8_0_2_1 := by
  funext y
  obtain ⟨b, u, k, rfl⟩ : ∃ (b : Fin 8) (u : Fin 2048) (k : Fin 8), y = ix3 b u k :=
    ⟨y 0, y 1, y 2, by funext a; fin_cases a <;> rfl⟩
  rw [turn]
  exact Ref.G5_lane _ _ _ _ _ b u h k

/-- The second result is the reference's. -/
theorem same_wts : Cert.ReferenceIdeal.Value.G6 (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
    = transpose S8x2048x8 [0, 2, 1] (wts m c) transposes_S8x8x2048_S8x2048x8_0_2_1 := by
  funext y
  obtain ⟨b, u, k, rfl⟩ : ∃ (b : Fin 8) (u : Fin 2048) (k : Fin 8), y = ix3 b u k :=
    ⟨y 0, y 1, y 2, by funext a; fin_cases a <;> rfl⟩
  rw [turn]
  exact Ref.G6_lane _ _ _ _ _ b u h k
end

/-- The precondition's shape fact. -/
instance preFacts : Cert.Pre_biases_above_minus_inf.Facts where
  bcast_S_S64 := by
    refine ⟨?_, ?_⟩ <;> intro a <;> exact a.elim0

/-- The precondition, at one bias. -/
theorem bias_of_pre (x0 x1 x2 x3) (x4 : FVec Ideal Cert.Pre_biases_above_minus_inf.S64 .f32)
    (h : Cert.Pre_biases_above_minus_inf.fn (F := Ideal) x0 x1 x2 x3 x4 = fun _ => 1#1) (e : Fin 64) : x4 (ix1 e) ≠ (⊥ : EReal) := by
  have h := congrFun h (ix1 e)
  have h : BitVec.ofBool (decide (Ideal.ofBits .f32 0xFF800000#32 < x4 (ix1 e))) = 1#1 := h
  rw [ofBits_bot] at h
  intro hb
  rw [hb] at h
  simp at h

/-- The algebraic claim. -/
theorem algebraic : Cert.algebraic_KernelIdeal_ReferenceIdeal_pre_biases_above_minus_inf := by
  intro m g m' g' hpre hm
  refine ⟨fun c => transpose S8x2048x8 [0, 2, 1] (ids m c) transposes_S8x8x2048_S8x2048x8_0_2_1,
    fun c => transpose S8x2048x8 [0, 2, 1] (wts m c) transposes_S8x8x2048_S8x2048x8_0_2_1, run m g, ?_⟩
  refine (θ_run _ _ _).mono (fun r h c => ?_) (Cert.ReferenceIdeal.Value.run m' g')
  obtain ⟨h0, h1, h2, h3, h4, h5, h6⟩ := h c
  obtain ⟨e0, e1, e2, e3, e4⟩ := hm c
  have hb := bias_of_pre _ _ _ _ _ (hpre c)
  refine ⟨h0.trans ?_, h1.trans ?_, h2, h3, h4, h5, h6⟩
  · refine Eq.trans ?_ (same_ids m c hb)
    rw [← e0, ← e1, ← e2, ← e3, ← e4]
  · refine Eq.trans ?_ (same_wts m c hb)
    rw [← e0, ← e1, ← e2, ← e3, ← e4]

end Cert.Router.Arr

end
-- ==== Proof.lean ====
/- The proof of the claims (`Cert.Claim`, Defs.lean): the frames are the generated ones, the kernel and its idealized
   reading are the same program, and the kernel's results are the reference's (`Proof/Router/Same.lean`). -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Router.Same
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Router.Arr.preFacts,
    fun m ρ _ => Cert.Kernel.Gen.frame m ρ, fun m ρ _ => Cert.KernelIdeal.Gen.frame m ρ, fun m ρ _ => Cert.KernelIdeal.Gen.frame m ρ,
    fun m ρ _ => Cert.ReferenceIdeal.Gen.frame m ρ, fun m ρ _ => Cert.ReferenceIdeal.Gen.frame m ρ,
    trivial, Cert.Router.Arr.algebraic⟩

end Cert.Proof

end
